-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_and_columns [hPre_labels_and_columns : Cert.Pre_labels_and_columns.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_labels_and_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_and_columns [hPre_labels_and_columns : Cert.Pre_labels_and_columns.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_and_columns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_labels_and_columns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_labels_and_columns [hKernelIdeal : Cert.KernelIdeal.Facts] [hPre_labels_and_columns : Cert.Pre_labels_and_columns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_columns m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_labels_and_columns [hReferenceIdeal : Cert.ReferenceIdeal.Facts] [hPre_labels_and_columns : Cert.Pre_labels_and_columns.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_and_columns m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_labels_and_columns [hKernelIdeal : Cert.KernelIdeal.Facts] [hReferenceIdeal : Cert.ReferenceIdeal.Facts] [hPre_labels_and_columns : Cert.Pre_labels_and_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_and_columns m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v45_3)) (v3 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v45_3) = v2 c
          ∧ r.2.mem ((c.tc : Thread Cert.KernelIdeal.nD Cert.KernelIdeal.τ).loc Cert.KernelIdeal.main_v45_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_labels_and_columns : Cert.Pre_labels_and_columns.Facts),
    quiescent_Kernel (hKernel := hKernel)
    ∧ quiescent_KernelIdeal (hKernelIdeal := hKernelIdeal)
    ∧ quiescent_KernelIdeal_pre_labels_and_columns (hKernelIdeal := hKernelIdeal) (hPre_labels_and_columns := hPre_labels_and_columns)
    ∧ quiescent_ReferenceIdeal (hReferenceIdeal := hReferenceIdeal)
    ∧ quiescent_ReferenceIdeal_pre_labels_and_columns (hReferenceIdeal := hReferenceIdeal) (hPre_labels_and_columns := hPre_labels_and_columns)
    ∧ preserves_Kernel_KernelIdeal
    ∧ algebraic_KernelIdeal_ReferenceIdeal_pre_labels_and_columns (hKernelIdeal := hKernelIdeal) (hReferenceIdeal := hReferenceIdeal) (hPre_labels_and_columns := hPre_labels_and_columns)
-- ==== Pre_labels_and_columns.lean ====
abbrev S4x517x128 : Shape := ⟨3, ![4, 517, 128]⟩
abbrev S4x512 : Shape := ⟨2, ![4, 512]⟩
abbrev S4 : Shape := ⟨1, ![4]⟩
abbrev S64x128x512 : Shape := ⟨3, ![64, 128, 512]⟩
abbrev S128x20480 : Shape := ⟨2, ![128, 20480]⟩
abbrev S_ : Shape := ⟨0, ![]⟩
abbrev S64x512 : Shape := ⟨2, ![64, 512]⟩

class Facts : Prop where
  bcast_S_S4 : S_.BroadcastsInDim S4 (![] : Fin 0 → Fin S4.rank)
  reducesTo_S64x128x512_S64x512_d1 : S64x128x512.ReducesTo [1] S64x512
  h_S_ : 0 < S_.numel
  bcast_S_S64x512 : S_.BroadcastsInDim S64x512 (![] : Fin 0 → Fin S64x512.rank)

variable [Facts]

def fn {F : FTy → Type} [FloatOps F] (main_arg0 : FVec F S4x517x128 .f32) (main_arg1 : IVec S4x512 1) (main_arg2 : IVec S4 32) (main_arg3 : FVec F S64x128x512 .f32) (main_arg4 : FVec F S128x20480 .f32) (main_arg5 : IVec S_ 32) : IVec S4 1 × IVec S64x512 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 64#32
  let main_v2 : IVec S4 32 := broadcastInDim S4 ![] bcast_S_S4 main_c_0
  let main_v3 : IVec S4 1 := cmpi .slt main_arg2 main_v2
  let main_v4 : IVec S4 1 := andi main_v1 main_v3
  let main_v5 : FVec F S64x128x512 .f32 := mulf main_arg3 main_arg3
  let main_cst : FVec F S_ .f32 := constant S_ .f32 0x00000000#32
  let main_v6 : FVec F S64x512 .f32 := (fun x v => Host.reduceAdd x v reducesTo_S64x128x512_S64x512_d1 h_S_) main_v5 main_cst
  let main_cst_1 : FVec F S_ .f32 := constant S_ .f32 0x189ABE15#32
  let main_v7 : FVec F S64x512 .f32 := broadcastInDim S64x512 ![] bcast_S_S64x512 main_cst_1
  let main_v8 : IVec S64x512 1 := cmpf .oge main_v6 main_v7
  (main_v4, main_v8)
-- ==== Kernel.lean ====
abbrev S4x517x128 : Shape := ⟨3, ![4, 517, 128]⟩
abbrev S4x512 : Shape := ⟨2, ![4, 512]⟩
abbrev S4 : Shape := ⟨1, ![4]⟩
abbrev S64x128x512 : Shape := ⟨3, ![64, 128, 512]⟩
abbrev S128x20480 : Shape := ⟨2, ![128, 20480]⟩
abbrev S_ : Shape := ⟨0, ![]⟩
abbrev S4x512x128 : Shape := ⟨3, ![4, 512, 128]⟩
abbrev S4x5x128 : Shape := ⟨3, ![4, 5, 128]⟩
abbrev S2048x128 : Shape := ⟨2, ![2048, 128]⟩
abbrev S32x128 : Shape := ⟨2, ![32, 128]⟩
abbrev S20x128 : Shape := ⟨2, ![20, 128]⟩
abbrev S1 : Shape := ⟨1, ![1]⟩
abbrev S128x32 : Shape := ⟨2, ![128, 32]⟩
abbrev S4x1 : Shape := ⟨2, ![4, 1]⟩
abbrev S64 : Shape := ⟨1, ![64]⟩
abbrev S1x64 : Shape := ⟨2, ![1, 64]⟩
abbrev S4x64 : Shape := ⟨2, ![4, 64]⟩
abbrev S64x4 : Shape := ⟨2, ![64, 4]⟩
abbrev S64x1 : Shape := ⟨2, ![64, 1]⟩
abbrev S64x3 : Shape := ⟨2, ![64, 3]⟩
abbrev S64x8 : Shape := ⟨2, ![64, 8]⟩
abbrev S512 : Shape := ⟨1, ![512]⟩
abbrev S4x512x1 : Shape := ⟨3, ![4, 512, 1]⟩
abbrev S4x128x512 : Shape := ⟨3, ![4, 128, 512]⟩
abbrev S2048x53248 : Shape := ⟨2, ![2048, 53248]⟩
abbrev S32x32768 : Shape := ⟨2, ![32, 32768]⟩
abbrev S128x2048 : Shape := ⟨2, ![128, 2048]⟩
abbrev S2048x2048 : Shape := ⟨2, ![2048, 2048]⟩
abbrev S32x2048 : Shape := ⟨2, ![32, 2048]⟩
abbrev S1x128x512 : Shape := ⟨3, ![1, 128, 512]⟩
abbrev S128x512 : Shape := ⟨2, ![128, 512]⟩
abbrev S2048x512 : Shape := ⟨2, ![2048, 512]⟩
abbrev S32x512 : Shape := ⟨2, ![32, 512]⟩
abbrev S1x512 : Shape := ⟨2, ![1, 512]⟩
abbrev S1x2048 : Shape := ⟨2, ![1, 2048]⟩
abbrev S2048 : Shape := ⟨1, ![2048]⟩
abbrev S4x512x53248 : Shape := ⟨3, ![4, 512, 53248]⟩
abbrev S20x32768 : Shape := ⟨2, ![20, 32768]⟩
abbrev S4x5x32768 : Shape := ⟨3, ![4, 5, 32768]⟩

abbrev nBuf : Space → Nat
  | .hbm => 92
  | .vmem => 16
  | .smem => 2
  | _ => 0

abbrev bufTy : (tb : Table) → Fin (tcTables nBuf tb) → BufTy
  | .hbm, ⟨0, _⟩ => ⟨S4x517x128, .f32⟩
  | .hbm, ⟨1, _⟩ => ⟨S4x512, .i1⟩
  | .hbm, ⟨2, _⟩ => ⟨S4, .i32⟩
  | .hbm, ⟨3, _⟩ => ⟨S64x128x512, .f32⟩
  | .hbm, ⟨4, _⟩ => ⟨S128x20480, .f32⟩
  | .hbm, ⟨5, _⟩ => ⟨S_, .i32⟩
  | .hbm, ⟨6, _⟩ => ⟨S4x512x128, .f32⟩
  | .hbm, ⟨7, _⟩ => ⟨S4x5x128, .f32⟩
  | .hbm, ⟨8, _⟩ => ⟨S2048x128, .f32⟩
  | .hbm, ⟨9, _⟩ => ⟨S_, .f32⟩
  | .hbm, ⟨10, _⟩ => ⟨S32x128, .f32⟩
  | .hbm, ⟨11, _⟩ => ⟨S20x128, .f32⟩
  | .hbm, ⟨12, _⟩ => ⟨S_, .i32⟩
  | .hbm, ⟨13, _⟩ => ⟨S1, .i32⟩
  | .hbm, ⟨14, _⟩ => ⟨S32x128, .f32⟩
  | .hbm, ⟨15, _⟩ => ⟨S128x32, .f32⟩
  | .hbm, ⟨16, _⟩ => ⟨S4x1, .i32⟩
  | .hbm, ⟨17, _⟩ => ⟨S64, .i32⟩
  | .hbm, ⟨18, _⟩ => ⟨S1x64, .i32⟩
  | .hbm, ⟨19, _⟩ => ⟨S4x64, .i32⟩
  | .hbm, ⟨20, _⟩ => ⟨S4x64, .i32⟩
  | .hbm, ⟨21, _⟩ => ⟨S4x64, .i1⟩
  | .hbm, ⟨22, _⟩ => ⟨S4x64, .f32⟩
  | .hbm, ⟨23, _⟩ => ⟨S_, .f32⟩
  | .hbm, ⟨24, _⟩ => ⟨S64, .f32⟩
  | .hbm, ⟨25, _⟩ => ⟨S64x4, .f32⟩
  | .hbm, ⟨26, _⟩ => ⟨S_, .f32⟩
  | .hbm, ⟨27, _⟩ => ⟨S64, .f32⟩
  | .hbm, ⟨28, _⟩ => ⟨S64, .i1⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64x1, .f32⟩
  | .hbm, ⟨40, _⟩ => ⟨S64x4, .f32⟩
  | .hbm, ⟨41, _⟩ => ⟨S64x4, .f32⟩
  | .hbm, ⟨42, _⟩ => ⟨S_, .f32⟩
  | .hbm, ⟨43, _⟩ => ⟨S64, .f32⟩
  | .hbm, ⟨44, _⟩ => ⟨S64, .i1⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64x1, .f32⟩
  | .hbm, ⟨51, _⟩ => ⟨S_, .f32⟩
  | .hbm, ⟨52, _⟩ => ⟨S64x3, .f32⟩
  | .hbm, ⟨53, _⟩ => ⟨S64x1, .f32⟩
  | .hbm, ⟨54, _⟩ => ⟨S64x8, .f32⟩
  | .hbm, ⟨55, _⟩ => ⟨S512, .f32⟩
  | .hbm, ⟨56, _⟩ => ⟨S4x512x1, .i1⟩
  | .hbm, ⟨57, _⟩ => ⟨S4x512x1, .f32⟩
  | .hbm, ⟨58, _⟩ => ⟨S4x512x128, .f32⟩
  | .hbm, ⟨59, _⟩ => ⟨S4x512x128, .f32⟩
  | .hbm, ⟨60, _⟩ => ⟨S4x128x512, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i1⟩
  | .hbm, ⟨76, _⟩ => ⟨S_, .i1⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S1, .i32⟩
  | .hbm, ⟨85, _⟩ => ⟨S2048x53248, .f32⟩
  | .hbm, ⟨86, _⟩ => ⟨S32x32768, .f32⟩
  | .hbm, ⟨87, _⟩ => ⟨S128x20480, .f32⟩
  | .hbm, ⟨88, _⟩ => ⟨S64x128x512, .f32⟩
  | .hbm, ⟨89, _⟩ => ⟨S4x512x53248, .f32⟩
  | .hbm, ⟨90, _⟩ => ⟨S20x32768, .f32⟩
  | .hbm, ⟨91, _⟩ => ⟨S4x5x32768, .f32⟩
  | .local _ .vmem, ⟨0, _⟩ => ⟨S2048x128, .f32⟩
  | .local _ .vmem, ⟨1, _⟩ => ⟨S32x128, .f32⟩
  | .local _ .vmem, ⟨2, _⟩ => ⟨S4x128x512, .f32⟩
  | .local _ .vmem, ⟨3, _⟩ => ⟨S4x128x512, .f32⟩
  | .local _ .vmem, ⟨4, _⟩ => ⟨S128x2048, .f32⟩
  | .local _ .vmem, ⟨5, _⟩ => ⟨S128x2048, .f32⟩
  | .local _ .vmem, ⟨6, _⟩ => ⟨S4x128x512, .f32⟩
  | .local _ .vmem, ⟨7, _⟩ => ⟨S128x32, .f32⟩
  | .local _ .vmem, ⟨8, _⟩ => ⟨S2048x2048, .f32⟩
  | .local _ .vmem, ⟨9, _⟩ => ⟨S2048x2048, .f32⟩
  | .local _ .vmem, ⟨10, _⟩ => ⟨S32x2048, .f32⟩
  | .local _ .vmem, ⟨11, _⟩ => ⟨S32x2048, .f32⟩
  | .local _ .vmem, ⟨12, _⟩ => ⟨S128x2048, .f32⟩
  | .local _ .vmem, ⟨13, _⟩ => ⟨S128x2048, .f32⟩
  | .local _ .vmem, ⟨14, _⟩ => ⟨S4x128x512, .f32⟩
  | .local _ .vmem, ⟨15, _⟩ => ⟨S4x128x512, .f32⟩
  | .local _ .smem, ⟨0, _⟩ => ⟨S512, .f32⟩
  | .local _ .smem, ⟨1, _⟩ => ⟨S1, .i32⟩
  | _, _ => ⟨S4x517x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_c_10 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_c_1 : Ref sig .tc := ⟨.hbm, 70, rfl⟩
abbrev main_call2_v4 : Ref sig .tc := ⟨.hbm, 71, rfl⟩
abbrev main_call2_c_2 : Ref sig .tc := ⟨.hbm, 72, rfl⟩
abbrev main_call2_v5 : Ref sig .tc := ⟨.hbm, 73, rfl⟩
abbrev main_call2_c_3 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_v41 : Ref sig .tc := ⟨.hbm, 79, rfl⟩
abbrev main_c_11 : Ref sig .tc := ⟨.hbm, 80, rfl⟩
abbrev main_v42 : Ref sig .tc := ⟨.hbm, 81, rfl⟩
abbrev main_c_12 : Ref sig .tc := ⟨.hbm, 82, rfl⟩
abbrev main_v43 : Ref sig .tc := ⟨.hbm, 83, rfl⟩
abbrev main_v44 : Ref sig .tc := ⟨.hbm, 84, rfl⟩
abbrev main_v45_0 : Ref sig .tc := ⟨.hbm, 85, rfl⟩
abbrev main_v45_1 : Ref sig .tc := ⟨.hbm, 86, rfl⟩
abbrev main_v45_2 : Ref sig .tc := ⟨.hbm, 87, rfl⟩
abbrev main_v45_3 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) (c0_i32_13 : BitVec 32) (c0_i32_14 : BitVec 32) : Fin 1 → Nat :=
  let arg0 : BitVec 32 := BitVec.ofNat 32 (i 0).val
  let c4_i32 : BitVec 32 := 4#32
  let v16 : BitVec 32 := Scalar.muli arg0 c4_i32
  let v17 : BitVec 32 := Scalar.addi v16 c0_i32_13
  let c8_i32 : BitVec 32 := 8#32
  let v18 : BitVec 32 := Scalar.muli v17 c8_i32
  let v19 : BitVec 32 := Scalar.addi v18 c0_i32_14
  let v20 : Index := Scalar.indexCast v19
  ![v20.toNat]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .smem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x517x128 : Shape := ⟨3, ![4, 517, 128]⟩
abbrev S4x512 : Shape := ⟨2, ![4, 512]⟩
abbrev S4 : Shape := ⟨1, ![4]⟩
abbrev S64x128x512 : Shape := ⟨3, ![64, 128, 512]⟩
abbrev S128x20480 : Shape := ⟨2, ![128, 20480]⟩
abbrev S_ : Shape := ⟨0, ![]⟩
abbrev S4x512x128 : Shape := ⟨3, ![4, 512, 128]⟩
abbrev S4x5x128 : Shape := ⟨3, ![4, 5, 128]⟩
abbrev S4x512x64x512 : Shape := ⟨4, ![4, 512, 64, 512]⟩
abbrev S4x512x20480 : Shape := ⟨3, ![4, 512, 20480]⟩
abbrev S4x512x32768 : Shape := ⟨3, ![4, 512, 32768]⟩
abbrev S4x512x53248 : Shape := ⟨3, ![4, 512, 53248]⟩
abbrev S4x5x64x512 : Shape := ⟨4, ![4, 5, 64, 512]⟩
abbrev S4x5x32768 : Shape := ⟨3, ![4, 5, 32768]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S4x512x1 : Shape := ⟨3, ![4, 512, 1]⟩
abbrev S64x4 : Shape := ⟨2, ![64, 4]⟩
abbrev S4x65536 : Shape := ⟨2, ![4, 65536]⟩
abbrev S64x65536 : Shape := ⟨2, ![64, 65536]⟩
abbrev S64x512x128 : Shape := ⟨3, ![64, 512, 128]⟩
abbrev S64x1x1 : Shape := ⟨3, ![64, 1, 1]⟩
abbrev S64x512 : Shape := ⟨2, ![64, 512]⟩
abbrev S64x1x512 : Shape := ⟨3, ![64, 1, 512]⟩
abbrev S20x128 : Shape := ⟨2, ![20, 128]⟩
abbrev S128x20 : Shape := ⟨2, ![128, 20]⟩
abbrev S20480 : Shape := ⟨1, ![20480]⟩
abbrev S1x20480 : Shape := ⟨2, ![1, 20480]⟩

abbrev nBuf : Space → Nat
  | .hbm => 123
  | .vmem => 0
  | .smem => 0
  | _ => 0

abbrev bufTy : (tb : Table) → Fin (tcTables nBuf tb) → BufTy
  | .hbm, ⟨0, _⟩ => ⟨S4x517x128, .f32⟩
  | .hbm, ⟨1, _⟩ => ⟨S4x512, .i1⟩
  | .hbm, ⟨2, _⟩ => ⟨S4, .i32⟩
  | .hbm, ⟨3, _⟩ => ⟨S64x128x512, .f32⟩
  | .hbm, ⟨4, _⟩ => ⟨S128x20480, .f32⟩
  | .hbm, ⟨5, _⟩ => ⟨S_, .i32⟩
  | .hbm, ⟨6, _⟩ => ⟨S4x512x128, .f32⟩
  | .hbm, ⟨7, _⟩ => ⟨S4x5x128, .f32⟩
  | .hbm, ⟨8, _⟩ => ⟨S4x512x64x512, .f32⟩
  | .hbm, ⟨9, _⟩ => ⟨S4x512x20480, .f32⟩
  | .hbm, ⟨10, _⟩ => ⟨S4x512x32768, .f32⟩
  | .hbm, ⟨11, _⟩ => ⟨S4x512x53248, .f32⟩
  | .hbm, ⟨12, _⟩ => ⟨S4x5x64x512, .f32⟩
  | .hbm, ⟨13, _⟩ => ⟨S4x5x32768, .f32⟩
  | .hbm, ⟨14, _⟩ => ⟨S_, .f32⟩
  | .hbm, ⟨15, _⟩ => ⟨S64, .f32⟩
  | .hbm, ⟨16, _⟩ => ⟨S_, .i32⟩
  | .hbm, ⟨17, _⟩ => ⟨S4, .i32⟩
  | .hbm, ⟨18, _⟩ => ⟨S4, .i1⟩
  | .hbm, ⟨19, _⟩ => ⟨S_, .i32⟩
  | .hbm, ⟨20, _⟩ => ⟨S4, .i32⟩
  | .hbm, ⟨21, _⟩ => ⟨S4, .i32⟩
  | .hbm, ⟨22, _⟩ => ⟨S4, .i32⟩
  | .hbm, ⟨23, _⟩ => ⟨S4x1, .i32⟩
  | .hbm, ⟨24, _⟩ => ⟨S_, .f32⟩
  | .hbm, ⟨25, _⟩ => ⟨S4, .f32⟩
  | .hbm, ⟨26, _⟩ => ⟨S64, .f32⟩
  | .hbm, ⟨27, _⟩ => ⟨S4x1, .i32⟩
  | .hbm, ⟨28, _⟩ => ⟨S1x64, .i32⟩
  | .hbm, ⟨29, _⟩ => ⟨S4x64, .i32⟩
  | .hbm, ⟨30, _⟩ => ⟨S4x64, .i32⟩
  | .hbm, ⟨31, _⟩ => ⟨S4x64, .i1⟩
  | .hbm, ⟨32, _⟩ => ⟨S4x64, .f32⟩
  | .hbm, ⟨33, _⟩ => ⟨S_, .f32⟩
  | .hbm, ⟨34, _⟩ => ⟨S64, .f32⟩
  | .hbm, ⟨35, _⟩ => ⟨S64, .i1⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S4x64, .f32⟩
  | .hbm, ⟨48, _⟩ => ⟨S4x64, .f32⟩
  | .hbm, ⟨49, _⟩ => ⟨S4x512x1, .i1⟩
  | .hbm, ⟨50, _⟩ => ⟨S4x512x1, .f32⟩
  | .hbm, ⟨51, _⟩ => ⟨S4x512x128, .f32⟩
  | .hbm, ⟨52, _⟩ => ⟨S4x512x128, .f32⟩
  | .hbm, ⟨53, _⟩ => ⟨S64x4, .f32⟩
  | .hbm, ⟨54, _⟩ => ⟨S4x65536, .f32⟩
  | .hbm, ⟨55, _⟩ => ⟨S64x65536, .f32⟩
  | .hbm, ⟨56, _⟩ => ⟨S64x512x128, .f32⟩
  | .hbm, ⟨57, _⟩ => ⟨S64x128x512, .f32⟩
  | .hbm, ⟨58, _⟩ => ⟨S_, .f32⟩
  | .hbm, ⟨59, _⟩ => ⟨S64, .f32⟩
  | .hbm, ⟨60, _⟩ => ⟨S64, .i1⟩
  | .hbm, ⟨61, _⟩ => ⟨S64x1x1, .i1⟩
  | .hbm, ⟨62, _⟩ => ⟨S64x128x512, .i1⟩
  | .hbm, ⟨63, _⟩ => ⟨S64x128x512, .f32⟩
  | .hbm, ⟨64, _⟩ => ⟨S_, .f32⟩
  | .hbm, ⟨65, _⟩ => ⟨S64x128x512, .f32⟩
  | .hbm, ⟨66, _⟩ => ⟨S64x128x512, .f32⟩
  | .hbm, ⟨67, _⟩ => ⟨S_, .f32⟩
  | .hbm, ⟨68, _⟩ => ⟨S64x128x512, .f32⟩
  | .hbm, ⟨69, _⟩ => ⟨S64x128x512, .f32⟩
  | .hbm, ⟨70, _⟩ => ⟨S64x128x512, .f32⟩
  | .hbm, ⟨71, _⟩ => ⟨S64x128x512, .f32⟩
  | .hbm, ⟨72, _⟩ => ⟨S_, .f32⟩
  | .hbm, ⟨73, _⟩ => ⟨S64x512, .f32⟩
  | .hbm, ⟨74, _⟩ => ⟨S64x1x512, .f32⟩
  | .hbm, ⟨75, _⟩ => ⟨S64x1x512, .f32⟩
  | .hbm, ⟨76, _⟩ => ⟨S_, .f32⟩
  | .hbm, ⟨77, _⟩ => ⟨S64x1x512, .f32⟩
  | .hbm, ⟨78, _⟩ => ⟨S64x1x512, .f32⟩
  | .hbm, ⟨79, _⟩ => ⟨S64x128x512, .f32⟩
  | .hbm, ⟨80, _⟩ => ⟨S64x128x512, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i1⟩
  | .hbm, ⟨96, _⟩ => ⟨S_, .i1⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S20x128, .f32⟩
  | .hbm, ⟨101, _⟩ => ⟨S128x20, .f32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i1⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S128x20480, .f32⟩
  | .hbm, ⟨113, _⟩ => ⟨S128x20480, .f32⟩
  | .hbm, ⟨114, _⟩ => ⟨S_, .f32⟩
  | .hbm, ⟨115, _⟩ => ⟨S20480, .f32⟩
  | .hbm, ⟨116, _⟩ => ⟨S1x20480, .f32⟩
  | .hbm, ⟨117, _⟩ => ⟨S1x20480, .f32⟩
  | .hbm, ⟨118, _⟩ => ⟨S_, .f32⟩
  | .hbm, ⟨119, _⟩ => ⟨S1x20480, .f32⟩
  | .hbm, ⟨120, _⟩ => ⟨S1x20480, .f32⟩
  | .hbm, ⟨121, _⟩ => ⟨S128x20480, .f32⟩
  | .hbm, ⟨122, _⟩ => ⟨S128x20480, .f32⟩
  | _, _ => ⟨S4x517x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_v0 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call3_v0 : Ref sig .tc := ⟨.hbm, 71, rfl⟩
abbrev main_call3_cst : Ref sig .tc := ⟨.hbm, 72, rfl⟩
abbrev main_call3_v1 : Ref sig .tc := ⟨.hbm, 73, rfl⟩
abbrev main_call3_v2 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_c_11 : Ref sig .tc := ⟨.hbm, 83, rfl⟩
abbrev main_call4_v0 : Ref sig .tc := ⟨.hbm, 84, rfl⟩
abbrev main_call4_c : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_c_1 : Ref sig .tc := ⟨.hbm, 90, rfl⟩
abbrev main_call4_v4 : Ref sig .tc := ⟨.hbm, 91, rfl⟩
abbrev main_call4_c_2 : Ref sig .tc := ⟨.hbm, 92, rfl⟩
abbrev main_call4_v5 : Ref sig .tc := ⟨.hbm, 93, rfl⟩
abbrev main_call4_c_3 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_c_12 : Ref sig .tc := ⟨.hbm, 102, rfl⟩
abbrev main_v55 : Ref sig .tc := ⟨.hbm, 103, rfl⟩
abbrev main_c_13 : Ref sig .tc := ⟨.hbm, 104, rfl⟩
abbrev main_v56 : Ref sig .tc := ⟨.hbm, 105, rfl⟩
abbrev main_c_14 : Ref sig .tc := ⟨.hbm, 106, rfl⟩
abbrev main_v57 : Ref sig .tc := ⟨.hbm, 107, rfl⟩
abbrev main_c_15 : Ref sig .tc := ⟨.hbm, 108, rfl⟩
abbrev main_v58 : Ref sig .tc := ⟨.hbm, 109, rfl⟩
abbrev main_v59 : Ref sig .tc := ⟨.hbm, 110, rfl⟩
abbrev main_c_16 : Ref sig .tc := ⟨.hbm, 111, rfl⟩
abbrev main_v60 : Ref sig .tc := ⟨.hbm, 112, rfl⟩
abbrev main_call5_v0 : Ref sig .tc := ⟨.hbm, 113, rfl⟩
abbrev main_call5_cst : Ref sig .tc := ⟨.hbm, 114, rfl⟩
abbrev main_call5_v1 : Ref sig .tc := ⟨.hbm, 115, rfl⟩
abbrev main_call5_v2 : Ref sig .tc := ⟨.hbm, 116, rfl⟩
abbrev main_v61 : Ref sig .tc := ⟨.hbm, 117, rfl⟩
abbrev main_cst_17 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩

abbrev nD : Nat := 1
abbrev τ : Topo := Topo.v7x

variable {F : FTy → Type} [FloatOps F]
-- ==== Proof.Outs.lean ====
/- What one grid point's body leaves in each output buffer, as plain functions of the input blocks: the products of the
   vertex rows with the memory block, the normalised memory block, the normalised clutter block. The stores of the body
   are pieces of these. -/
module

public import proofs.«01_k».proof.Proof.Gen.KernelIdeal.Skeleton
public import Idealize.ShloMosaic.Lib.Pipeline.FrameBody
public import Idealize.ShloMosaic.Lib.Pipeline.Value
public import Idealize.ShloMosaic.Lib.WritesUnit
public import Idealize.ShloMosaic.Lib.WholeRead
public import Idealize.ShloMosaic.Lib.ValueIdxCore

@[expose] public section

set_option maxRecDepth 16384

noncomputable section

namespace Cert.Mesh

open Idealize.ShloMosaic Idealize.ShloMosaic.ValueIdx Idealize.SL.Sem
open Cert.KernelIdeal Cert.KernelIdeal.Gen

variable {F : FTy → Type} [FloatOps F]

/-! ## The functions -/

/-- Class `k`'s matrix of a block of four classes. -/
def slab (x : Vec F S4x128x512 .f32) (k : Fin 4) : FVec F S128x512 .f32 := fun q => x (ix3 k (q 0) (q 1))

/-- The block's class a flat column of the four classes lies in, -/
def cls (j : Fin 2048) : Fin 4 := ⟨j.val / 512, by omega⟩
/-- and its column there. -/
def col (j : Fin 2048) : Fin 512 := ⟨j.val % 512, by omega⟩

/-- The products of the 2048 vertex rows with the block's four classes, side by side. -/
def outSim (x2 : Vec F S2048x128 .f32) (x4 : Vec F S4x128x512 .f32) : Vec F S2048x2048 .f32 := fun j =>
  matmul dot_S2048x128_S128x512_S2048x512_1_0_0_1_n_n none x2 (slab x4 (cls (j 1))) (constant S2048x512 .f32 0x00000000#32)
    (ix2 (j 0) (col (j 1)))

/-- The products of the 32 noise rows with the block's four classes, side by side. -/
def outNoise (x3 : Vec F S32x128 .f32) (x4 : Vec F S4x128x512 .f32) : Vec F S32x2048 .f32 := fun j =>
  matmul dot_S32x128_S128x512_S32x512_1_0_0_1_n_n none x3 (slab x4 (cls (j 1))) (constant S32x512 .f32 0x00000000#32)
    (ix2 (j 0) (col (j 1)))

/-- The products of the vertex rows with a block of the clutter bank. -/
def outSimClutter (x2 : Vec F S2048x128 .f32) (x5 : Vec F S128x2048 .f32) : Vec F S2048x2048 .f32 :=
  matmul dot_S2048x128_S128x2048_S2048x2048_1_0_0_1_n_n none x2 x5 (constant S2048x2048 .f32 0x00000000#32)

/-- Entry `b` of the weights of class `k` of the block of grid point `i`. -/
def wgt (x0 : Vec F S512 .f32) (i : grid0.Coords) (k : Fin 4) (b : Fin 5) : F .f32 :=
  x0 (ix1 ⟨(((i 0).val * 4 + k.val) * 8 + b.val) % 512, Nat.mod_lt _ (by norm_num)⟩)

/-- A class's updated matrix: the old one times its weight, plus the images' weighted visible features. -/
def updated (w : Fin 5 → F .f32) (mem : FVec F S128x512 .f32) (vis : Vec F S4x128x512 .f32) : FVec F S128x512 .f32 :=
  addf (mulf (broadcast S128x512 (w 4)) mem)
    (addf (addf (addf (mulf (broadcast S128x512 (w 0)) (slab vis 0)) (mulf (broadcast S128x512 (w 1)) (slab vis 1)))
      (mulf (broadcast S128x512 (w 2)) (slab vis 2))) (mulf (broadcast S128x512 (w 3)) (slab vis 3)))

/-- A matrix whose columns are divided by their norms (taken to be at least 1e-12). -/
def normed (u : FVec F S128x512 .f32) : FVec F S128x512 .f32 :=
  mulf u (broadcastTo S128x512 (divf (broadcast S1x512 (Scalar.ofBits .f32 0x3F800000#32))
    (maximumf (sqrt (shapeCast S1x512 (multiReduction .add [0] S512 (mulf u u) 0x00000000#32 reduces_S128x512_S512 (.inl rfl) rfl)
      shapeCasts_S512_S1x512)) (broadcast S1x512 (Scalar.ofBits .f32 0x2B8CBCCC#32)))) broadcasts_S1x512_S128x512)

/-- The block's four classes, updated and normalised. -/
def outMem (x0 : Vec F S512 .f32) (x4 x6 : Vec F S4x128x512 .f32) (i : grid0.Coords) : Vec F S4x128x512 .f32 := fun j =>
  normed (updated (wgt x0 i (j 0)) (slab x4 (j 0)) x6) (ix2 (j 1) (j 2))

/-- The clutter block with the noise columns put in where they fall into it, normalised. -/
def outClutter (x1 : Vec F S1 .i32) (x5 : Vec F S128x2048 .f32) (x7 : Vec F S128x32 .f32) (i : grid0.Coords) : Vec F S128x2048 .f32 :=
  k0_pay25 (BitVec.ofNat 32 (i 0).val) x5 (x1 (ix1 0)) x7

/-! ## The loads -/

/-- A load of class `k` of a block, its unit axis dropped, is the class's matrix. -/
theorem slab_of_load (x : Vec F S4x128x512 .f32) (k : Fin 4) (off : Fin 3 → ℕ) (hoff : off = ![k.val, 0, 0])
    (inb : ∀ a : Fin 3, off a + S1x128x512.size a ≤ S4x128x512.size a) :
    shapeCast S128x512 (View.ld (Val := Elt F) (e' := .f32) x (Rect.unit (s := S4x128x512) off S1x128x512.size inb)) shapeCasts_S1x128x512_S128x512 = slab x k := by
  subst hoff
  funext q
  rw [eq_ix2 q]
  refine (shapeCast_dropUnit_apply (d := ![128, 512]) _ _ (ix2 (q 0) (q 1))).trans ?_
  refine congrArg x (funext fun a => Fin.ext ?_)
  match a with
  | ⟨0, _⟩ => show k.val + 1 * 0 = k.val; omega
  | ⟨1, _⟩ => show 0 + 1 * (q 0).val = (q 0).val; omega
  | ⟨2, _⟩ => show 0 + 1 * (q 1).val = (q 1).val; omega

/-- A load of a whole buffer reads it as it is. -/
theorem load_whole {n m : ℕ} (x : Vec F ⟨2, ![n, m]⟩ .f32) (inb : ∀ a : Fin 2, ![0, 0] a + (![n, m] : Fin 2 → ℕ) a ≤ (![n, m] : Fin 2 → ℕ) a) :
    View.ld (Val := Elt F) (e' := .f32) x (Rect.unit (s := ⟨2, ![n, m]⟩) ![0, 0] ![n, m] inb) = x := by
  funext q
  refine congrArg x (funext fun a => Fin.ext ?_)
  match a with
  | ⟨0, _⟩ => show 0 + 1 * (q 0).val = (q 0).val; omega
  | ⟨1, _⟩ => show 0 + 1 * (q 1).val = (q 1).val; omega

/-- The offset of a weight, as a number. -/
theorem off_weight (i : grid0.Coords) (k : Fin 4) (b : Fin 5) (h : k0_cond1 i = 1#1) :
    k0_off1 i (BitVec.ofNat 32 k.val) (BitVec.ofNat 32 b.val) 0 = (((i 0).val * 4 + k.val) * 8 + b.val) % 512 := by
  have hi : (i 0).val < 26 := (i 0).isLt
  have key : ∀ n : Fin 26, ∀ k : Fin 4, ∀ b : Fin 5, n.val < 16 →
      (Scalar.indexCast (Scalar.addi (Scalar.muli (Scalar.addi (Scalar.muli (BitVec.ofNat 32 n.val) 4#32) (BitVec.ofNat 32 k.val)) 8#32) (BitVec.ofNat 32 b.val)) : Index).toNat
        = ((n.val * 4 + k.val) * 8 + b.val) % 512 := by decide +kernel
  have h16 : ∀ n : Fin 26, Scalar.cmpi .ne (Scalar.extui (Scalar.cmpi .slt (BitVec.ofNat 32 n.val) 16#32) : BitVec 32) 0#32 = 1#1 → n.val < 16 := by
    decide +kernel
  exact key ⟨(i 0).val, hi⟩ k b (h16 ⟨(i 0).val, hi⟩ h)

/-- A load of a weight. -/
theorem wgt_of_load (x0 : Vec F S512 .f32) (i : grid0.Coords) (k : Fin 4) (b : Fin 5) (h : k0_cond1 i = 1#1)
    (inb : ∀ a : Fin 1, k0_off1 i (BitVec.ofNat 32 k.val) (BitVec.ofNat 32 b.val) a + S1.size a ≤ S512.size a) (z : S1.Idx) :
    View.ld (Val := Elt F) (e' := .f32) x0 (Rect.unit (s := S512) (k0_off1 i (BitVec.ofNat 32 k.val) (BitVec.ofNat 32 b.val)) S1.size inb) z = wgt x0 i k b := by
  refine congrArg x0 (funext fun a => Fin.ext ?_)
  match a with
  | ⟨0, _⟩ =>
    show k0_off1 i (BitVec.ofNat 32 k.val) (BitVec.ofNat 32 b.val) 0 + 1 * (z 0).val = _
    have hz : (z 0).val < 1 := (z 0).isLt
    rw [off_weight i k b h]
    show _ + 1 * (z 0).val = (((i 0).val * 4 + k.val) * 8 + b.val) % 512
    omega

/-- Class `k`'s stored matrix, written over the loads the body makes. -/
def memOfLoads (x0 : Vec F S512 .f32) (x4 x6 : Vec F S4x128x512 .f32) (i : grid0.Coords) (h : k0_cond1 i = 1#1) (z : S1.Idx) (k : Fin 4)
    (inb : ∀ k' : Fin 4, ∀ a : Fin 3, (![k'.val, 0, 0] : Fin 3 → ℕ) a + S1x128x512.size a ≤ S4x128x512.size a) : FVec F S128x512 .f32 :=
  let w (b : Fin 5) : F .f32 := View.ld (Val := Elt F) (e' := .f32) x0
    (Rect.unit (s := S512) (k0_off1 i (BitVec.ofNat 32 k.val) (BitVec.ofNat 32 b.val)) S1.size (k0_off1_inb i h k b)) z
  let img (k' : Fin 4) : FVec F S128x512 .f32 := shapeCast S128x512
    (View.ld (Val := Elt F) (e' := .f32) x6 (Rect.unit (s := S4x128x512) ![k'.val, 0, 0] S1x128x512.size (inb k'))) shapeCasts_S1x128x512_S128x512
  normed (addf (mulf (broadcast S128x512 (w 4)) (shapeCast S128x512
      (View.ld (Val := Elt F) (e' := .f32) x4 (Rect.unit (s := S4x128x512) ![k.val, 0, 0] S1x128x512.size (inb k))) shapeCasts_S1x128x512_S128x512))
    (addf (addf (addf (mulf (broadcast S128x512 (w 0)) (img 0)) (mulf (broadcast S128x512 (w 1)) (img 1)))
      (mulf (broadcast S128x512 (w 2)) (img 2))) (mulf (broadcast S128x512 (w 3)) (img 3))))

/-- It is the class updated and normalised. -/
theorem memOfLoads_eq (x0 : Vec F S512 .f32) (x4 x6 : Vec F S4x128x512 .f32) (i : grid0.Coords) (h : k0_cond1 i = 1#1) (z : S1.Idx) (k : Fin 4)
    (inb : ∀ k' : Fin 4, ∀ a : Fin 3, (![k'.val, 0, 0] : Fin 3 → ℕ) a + S1x128x512.size a ≤ S4x128x512.size a) :
    memOfLoads x0 x4 x6 i h z k inb = normed (updated (wgt x0 i k) (slab x4 k) x6) := by
  unfold memOfLoads updated
  simp only [wgt_of_load x0 i k _ h, slab_of_load _ _ _ rfl (inb _)]

/-- A stored product of the vertex rows, over the loads the body makes. -/
theorem sim_of_loads (x2 : Vec F S2048x128 .f32) (x4 : Vec F S4x128x512 .f32) (k : Fin 4)
    (inb2 : ∀ a : Fin 2, (![0, 0] : Fin 2 → ℕ) a + S2048x128.size a ≤ S2048x128.size a)
    (inb : ∀ a : Fin 3, (![k.val, 0, 0] : Fin 3 → ℕ) a + S1x128x512.size a ≤ S4x128x512.size a) :
    k0_pay5 (View.ld (Val := Elt F) (e' := .f32) x2 (Rect.unit (s := S2048x128) ![0, 0] S2048x128.size inb2))
        (View.ld (Val := Elt F) (e' := .f32) x4 (Rect.unit (s := S4x128x512) ![k.val, 0, 0] S1x128x512.size inb))
      = matmul dot_S2048x128_S128x512_S2048x512_1_0_0_1_n_n none x2 (slab x4 k) (constant S2048x512 .f32 0x00000000#32) := by
  unfold k0_pay5 k0_pay2 k0_pay4
  simp only [slab_of_load x4 k _ rfl inb, shapeCast_self, load_whole x2 inb2]

/-- A stored product of the noise rows, over the loads the body makes. -/
theorem noise_of_loads (x3 : Vec F S32x128 .f32) (x4 : Vec F S4x128x512 .f32) (k : Fin 4)
    (inb2 : ∀ a : Fin 2, (![0, 0] : Fin 2 → ℕ) a + S32x128.size a ≤ S32x128.size a)
    (inb : ∀ a : Fin 3, (![k.val, 0, 0] : Fin 3 → ℕ) a + S1x128x512.size a ≤ S4x128x512.size a) :
    k0_pay6 (View.ld (Val := Elt F) (e' := .f32) x3 (Rect.unit (s := S32x128) ![0, 0] S32x128.size inb2))
        (View.ld (Val := Elt F) (e' := .f32) x4 (Rect.unit (s := S4x128x512) ![k.val, 0, 0] S1x128x512.size inb))
      = matmul dot_S32x128_S128x512_S32x512_1_0_0_1_n_n none x3 (slab x4 k) (constant S32x512 .f32 0x00000000#32) := by
  unfold k0_pay6 k0_pay3 k0_pay4
  simp only [slab_of_load x4 k _ rfl inb, shapeCast_self, load_whole x3 inb2]

/-- The stored product with the clutter block, over the loads the body makes. -/
theorem simClutter_of_loads (x2 : Vec F S2048x128 .f32) (x5 : Vec F S128x2048 .f32)
    (inb2 : ∀ a : Fin 2, (![0, 0] : Fin 2 → ℕ) a + S2048x128.size a ≤ S2048x128.size a)
    (inb5 : ∀ a : Fin 2, (![0, 0] : Fin 2 → ℕ) a + S128x2048.size a ≤ S128x2048.size a) :
    k0_pay24 (View.ld (Val := Elt F) (e' := .f32) x5 (Rect.unit (s := S128x2048) ![0, 0] S128x2048.size inb5))
        (View.ld (Val := Elt F) (e' := .f32) x2 (Rect.unit (s := S2048x128) ![0, 0] S2048x128.size inb2))
      = outSimClutter x2 x5 := by
  unfold k0_pay24 outSimClutter
  simp only [shapeCast_self, load_whole x2 inb2, load_whole x5 inb5]

/-! ## The stores -/

variable {sig' : RefSig} {κ : Kind} {sp : Space}

/-- Four stores side by side along the columns, read back: each column from the store it lies in. -/
theorem read_cols {n : ℕ} (v : View sig' κ sp ⟨2, ![n, 2048]⟩ .f32) (f : v.ty.Contents (Elt F)) (w : Fin 4 → Vec F ⟨2, ![n, 512]⟩ .f32)
    (h3 : ∀ a : Fin 2, ![0, 1536] a + (![n, 512] : Fin 2 → ℕ) a ≤ (![n, 2048] : Fin 2 → ℕ) a)
    (h2 : ∀ a : Fin 2, ![0, 1024] a + (![n, 512] : Fin 2 → ℕ) a ≤ (![n, 2048] : Fin 2 → ℕ) a)
    (h1 : ∀ a : Fin 2, ![0, 512] a + (![n, 512] : Fin 2 → ℕ) a ≤ (![n, 2048] : Fin 2 → ℕ) a)
    (h0 : ∀ a : Fin 2, ![0, 0] a + (![n, 512] : Fin 2 → ℕ) a ≤ (![n, 2048] : Fin 2 → ℕ) a) :
    v.read (Elt F) (v.writes (Elt F) f [⟨Rect.unit (s := ⟨2, ![n, 2048]⟩) ![0, 1536] ![n, 512] h3, w 3⟩,
        ⟨Rect.unit (s := ⟨2, ![n, 2048]⟩) ![0, 1024] ![n, 512] h2, w 2⟩,
        ⟨Rect.unit (s := ⟨2, ![n, 2048]⟩) ![0, 512] ![n, 512] h1, w 1⟩,
        ⟨Rect.unit (s := ⟨2, ![n, 2048]⟩) ![0, 0] ![n, 512] h0, w 0⟩])
      = fun j => w (cls (j 1)) (ix2 (j 0) (col (j 1))) := by
  funext j
  have hj : (j 1).val < 2048 := (j 1).isLt
  have hit : ∀ (k : Fin 4) (off : Fin 2 → ℕ) (inb : ∀ a : Fin 2, off a + (![n, 512] : Fin 2 → ℕ) a ≤ (![n, 2048] : Fin 2 → ℕ) a)
      (L : List (View.Piece (Elt F) (⟨2, ![n, 2048]⟩ : Shape) .f32)), off = ![0, 512 * k.val] → cls (j 1) = k →
      v.read (Elt F) (v.writes (Elt F) f (⟨Rect.unit (s := ⟨2, ![n, 2048]⟩) off ![n, 512] inb, w k⟩ :: L)) j
        = w (cls (j 1)) (ix2 (j 0) (col (j 1))) := by
    intro k off inb L ho hk
    subst hk
    refine View.read_writes_cons_unit_of_mem (off' := ![0, 512 * (cls (j 1)).val]) v f inb _ L j (ix2 (j 0) (col (j 1))) ho ?_
    intro a
    match a with
    | ⟨0, _⟩ => show (j 0).val = 0 + (j 0).val; omega
    | ⟨1, _⟩ => show (j 1).val = 512 * ((j 1).val / 512) + (j 1).val % 512; omega
  have miss : ∀ (k : Fin 4) (off : Fin 2 → ℕ) (inb : ∀ a : Fin 2, off a + (![n, 512] : Fin 2 → ℕ) a ≤ (![n, 2048] : Fin 2 → ℕ) a)
      (L : List (View.Piece (Elt F) (⟨2, ![n, 2048]⟩ : Shape) .f32)), off = ![0, 512 * k.val] → cls (j 1) ≠ k →
      v.read (Elt F) (v.writes (Elt F) f (⟨Rect.unit (s := ⟨2, ![n, 2048]⟩) off ![n, 512] inb, w k⟩ :: L)) j
        = v.read (Elt F) (v.writes (Elt F) f L) j := by
    intro k off inb L ho hk
    refine View.read_writes_cons_unit_of_not_mem (off' := ![0, 512 * k.val]) v f inb _ L j ho 1 ?_
    show (j 1).val < 512 * k.val ∨ 512 * k.val + 512 ≤ (j 1).val
    have : (j 1).val / 512 ≠ k.val := fun h => hk (Fin.ext h)
    omega
  rcases (by decide : ∀ k : Fin 4, k = 3 ∨ k = 2 ∨ k = 1 ∨ k = 0) (cls (j 1)) with e | e | e | e
  · exact hit 3 _ h3 _ rfl e
  · exact (miss 3 _ h3 _ rfl fun h => absurd (e.symm.trans h) (by decide)).trans (hit 2 _ h2 _ rfl e)
  · exact (miss 3 _ h3 _ rfl fun h => absurd (e.symm.trans h) (by decide)).trans
      ((miss 2 _ h2 _ rfl fun h => absurd (e.symm.trans h) (by decide)).trans (hit 1 _ h1 _ rfl e))
  · exact (miss 3 _ h3 _ rfl fun h => absurd (e.symm.trans h) (by decide)).trans
      ((miss 2 _ h2 _ rfl fun h => absurd (e.symm.trans h) (by decide)).trans
        ((miss 1 _ h1 _ rfl fun h => absurd (e.symm.trans h) (by decide)).trans (hit 0 _ h0 _ rfl e)))

/-- Four stores of one class each, read back. -/
theorem read_slabs (v : View sig' κ sp S4x128x512 .f32) (f : v.ty.Contents (Elt F)) (w : Fin 4 → FVec F S128x512 .f32)
    (h3 : ∀ a : Fin 3, ![3, 0, 0] a + S1x128x512.size a ≤ S4x128x512.size a)
    (h2 : ∀ a : Fin 3, ![2, 0, 0] a + S1x128x512.size a ≤ S4x128x512.size a)
    (h1 : ∀ a : Fin 3, ![1, 0, 0] a + S1x128x512.size a ≤ S4x128x512.size a)
    (h0 : ∀ a : Fin 3, ![0, 0, 0] a + S1x128x512.size a ≤ S4x128x512.size a) :
    v.read (Elt F) (v.writes (Elt F) f [⟨Rect.unit (s := S4x128x512) ![3, 0, 0] S1x128x512.size h3, shapeCast S1x128x512 (w 3) shapeCasts_S128x512_S1x128x512⟩,
        ⟨Rect.unit (s := S4x128x512) ![2, 0, 0] S1x128x512.size h2, shapeCast S1x128x512 (w 2) shapeCasts_S128x512_S1x128x512⟩,
        ⟨Rect.unit (s := S4x128x512) ![1, 0, 0] S1x128x512.size h1, shapeCast S1x128x512 (w 1) shapeCasts_S128x512_S1x128x512⟩,
        ⟨Rect.unit (s := S4x128x512) ![0, 0, 0] S1x128x512.size h0, shapeCast S1x128x512 (w 0) shapeCasts_S128x512_S1x128x512⟩])
      = fun j => w (j 0) (ix2 (j 1) (j 2)) := by
  funext j
  have hit : ∀ (k : Fin 4) (off : Fin 3 → ℕ) (inb : ∀ a : Fin 3, off a + S1x128x512.size a ≤ S4x128x512.size a)
      (L : List (View.Piece (Elt F) S4x128x512 .f32)), off = ![k.val, 0, 0] → j 0 = k →
      v.read (Elt F) (v.writes (Elt F) f (⟨Rect.unit (s := S4x128x512) off S1x128x512.size inb, shapeCast S1x128x512 (w k) shapeCasts_S128x512_S1x128x512⟩ :: L)) j
        = w (j 0) (ix2 (j 1) (j 2)) := by
    intro k off inb L ho hk
    subst hk
    refine (View.read_writes_cons_unit_of_mem (off' := ![(j 0).val, 0, 0]) v f inb _ L j (ix3 (0 : Fin 1) (j 1) (j 2)) ho ?_).trans ?_
    · intro a
      match a with
      | ⟨0, _⟩ => show (j 0).val = (j 0).val + 0; omega
      | ⟨1, _⟩ => show (j 1).val = 0 + (j 1).val; omega
      | ⟨2, _⟩ => show (j 2).val = 0 + (j 2).val; omega
    · refine (shapeCast_addUnit_apply ![128, 512] _ _ (ix3 (0 : Fin 1) (j 1) (j 2))).trans (congrArg (w (j 0)) ?_)
      funext a
      match a with
      | ⟨0, _⟩ => rfl
      | ⟨1, _⟩ => rfl
  have miss : ∀ (k : Fin 4) (off : Fin 3 → ℕ) (inb : ∀ a : Fin 3, off a + S1x128x512.size a ≤ S4x128x512.size a)
      (L : List (View.Piece (Elt F) S4x128x512 .f32)) (p : FVec F S1x128x512 .f32), off = ![k.val, 0, 0] → j 0 ≠ k →
      v.read (Elt F) (v.writes (Elt F) f (⟨Rect.unit (s := S4x128x512) off S1x128x512.size inb, p⟩ :: L)) j
        = v.read (Elt F) (v.writes (Elt F) f L) j := by
    intro k off inb L p ho hk
    refine View.read_writes_cons_unit_of_not_mem (off' := ![k.val, 0, 0]) v f inb _ L j ho 0 ?_
    show (j 0).val < k.val ∨ k.val + 1 ≤ (j 0).val
    have : (j 0).val ≠ k.val := fun h => hk (Fin.ext h)
    omega
  rcases (by decide : ∀ k : Fin 4, k = 3 ∨ k = 2 ∨ k = 1 ∨ k = 0) (j 0) with e | e | e | e
  · exact hit 3 _ h3 _ rfl e
  · exact (miss 3 _ h3 _ _ rfl fun h => absurd (e.symm.trans h) (by decide)).trans (hit 2 _ h2 _ rfl e)
  · exact (miss 3 _ h3 _ _ rfl fun h => absurd (e.symm.trans h) (by decide)).trans
      ((miss 2 _ h2 _ _ rfl fun h => absurd (e.symm.trans h) (by decide)).trans (hit 1 _ h1 _ rfl e))
  · exact (miss 3 _ h3 _ _ rfl fun h => absurd (e.symm.trans h) (by decide)).trans
      ((miss 2 _ h2 _ _ rfl fun h => absurd (e.symm.trans h) (by decide)).trans
        ((miss 1 _ h1 _ _ rfl fun h => absurd (e.symm.trans h) (by decide)).trans (hit 0 _ h0 _ rfl e)))

/-- One store over a whole buffer, read back. -/
theorem read_whole {n m : ℕ} (v : View sig' κ sp ⟨2, ![n, m]⟩ .f32) (f : v.ty.Contents (Elt F)) (w : Vec F ⟨2, ![n, m]⟩ .f32)
    (h : ∀ a : Fin 2, ![0, 0] a + (![n, m] : Fin 2 → ℕ) a ≤ (![n, m] : Fin 2 → ℕ) a) :
    v.read (Elt F) (v.writes (Elt F) f [⟨Rect.unit (s := ⟨2, ![n, m]⟩) ![0, 0] ![n, m] h, w⟩]) = w := by
  funext j
  refine View.read_writes_cons_unit_of_mem (off' := ![0, 0]) v f h _ [] j j rfl ?_
  intro a
  match a with
  | ⟨0, _⟩ => show (j 0).val = 0 + (j 0).val; omega
  | ⟨1, _⟩ => show (j 1).val = 0 + (j 1).val; omega

end Cert.Mesh

end
-- ==== Proof.RunMemory.lean ====
/- The body's run at a grid point of the memory part, from the staging buffers' contents to what it leaves in each. -/
module

public import proofs.«01_k».proof.Proof.Outs
public import proofs.«01_k».proof.Proof.Gen.KernelIdeal.Points
public import proofs.«01_k».proof.Proof.Gen.KernelIdeal.Frame

@[expose] public section

set_option maxRecDepth 16384

noncomputable section

namespace Cert.Mesh

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- The body at a point of the memory part: the vertex and noise products and the updated memory block are stored, the clutter
buffer is left as it is. -/
theorem run_memory (c : Dev nD) (i : grid0.Coords)
    (arg1 : Memref sig .tc .smem S512 .f32) (harg1 : arg1.IsWhole)
    (arg2 : Memref sig .tc .smem S1 .i32) (harg2 : arg2.IsWhole)
    (arg3 : Memref sig .tc .vmem S2048x128 .f32) (harg3 : arg3.IsWhole)
    (arg4 : Memref sig .tc .vmem S32x128 .f32) (harg4 : arg4.IsWhole)
    (arg5 : Memref sig .tc .vmem S4x128x512 .f32) (harg5 : arg5.IsWhole)
    (arg6 : Memref sig .tc .vmem S128x2048 .f32) (harg6 : arg6.IsWhole)
    (arg7 : Memref sig .tc .vmem S4x128x512 .f32) (harg7 : arg7.IsWhole)
    (arg8 : Memref sig .tc .vmem S128x32 .f32) (harg8 : arg8.IsWhole)
    (arg9 : Memref sig .tc .vmem S2048x2048 .f32) (harg9 : arg9.IsWhole)
    (arg10 : Memref sig .tc .vmem S32x2048 .f32) (harg10 : arg10.IsWhole)
    (arg11 : Memref sig .tc .vmem S128x2048 .f32) (harg11 : arg11.IsWhole)
    (arg12 : Memref sig .tc .vmem S4x128x512 .f32) (harg12 : arg12.IsWhole)
    (hc0 : k0_cond1 i = 1#1) (hc1 : ¬ k0_cond2 i = 1#1)
    (x0 : Vec F S512 .f32) (x1 : Vec F S1 .i32) (x2 : Vec F S2048x128 .f32) (x3 : Vec F S32x128 .f32) (x4 : Vec F S4x128x512 .f32) (x5 : Vec F S128x2048 .f32) (x6 : Vec F S4x128x512 .f32) (x7 : Vec F S128x32 .f32)
    (d10 : Vec F S128x2048 .f32) (E : Set ℕ) (K : PUnit → sProp 𝕄) :
    iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ (∃ d, owns (c : Thread nD τ) arg9 fullShare d)
          ∗ (∃ d, owns (c : Thread nD τ) arg10 fullShare d)
          ∗ owns (c : Thread nD τ) arg11 fullShare d10
          ∗ (∃ d, owns (c : Thread nD τ) arg12 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare (outSim x2 x4)
          ∗ owns (c : Thread nD τ) arg10 fullShare (outNoise x3 x4)
          ∗ owns (c : Thread nD τ) arg11 fullShare d10
          ∗ owns (c : Thread nD τ) arg12 fullShare (outMem x0 x4 x6 i)) -∗ K ⟨⟩))
      ⊢ wp frame (wpE (defs₀ (F := F)) Variants.none c none) E
          (cc0_mesh_memory_fused i arg1 harg1 arg2 harg2 arg3 harg3 arg4 harg4 arg5 harg5 arg6 harg6 arg7 harg7 arg8 harg8 arg9 harg9 arg10 harg10 arg11 harg11 arg12 harg12) K := by
  simp only [cc0_mesh_memory_fused_eq_skeleton]; unfold cc0_mesh_memory_fused_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro
    have l3 (r : Rect S2048x128) : View.readAt (Elt F) arg3.view r.toLoadRect (harg3.unread x2) = View.ld x2 r := funext fun x => harg3.readAt_unread x2 _ x
    have l5 (r : Rect S4x128x512) : View.readAt (Elt F) arg5.view r.toLoadRect (harg5.unread x4) = View.ld x4 r := funext fun x => harg5.readAt_unread x4 _ x
    refine Eq.trans ?_ (read_cols arg9.view f8 (fun k => matmul dot_S2048x128_S128x512_S2048x512_1_0_0_1_n_n none x2 (slab x4 k) (constant S2048x512 .f32 0x00000000#32))
      inb_S2048x2048_S2048x512_0_1536 inb_S2048x2048_S2048x512_0_1024 inb_S2048x2048_S2048x512_0_512 inb_S2048x2048_S2048x512_0_0)
    delta run_memory.sl.r_3
    simp only [l3, l5]
    rw [← sim_of_loads x2 x4 3 inb_S2048x128_S2048x128_0_0 inb_S4x128x512_S1x128x512_3_0_0, ← sim_of_loads x2 x4 2 inb_S2048x128_S2048x128_0_0 inb_S4x128x512_S1x128x512_2_0_0,
      ← sim_of_loads x2 x4 1 inb_S2048x128_S2048x128_0_0 inb_S4x128x512_S1x128x512_1_0_0, ← sim_of_loads x2 x4 0 inb_S2048x128_S2048x128_0_0 inb_S4x128x512_S1x128x512_0_0_0]
    rfl
  isplitl [H9]
  · iexists _; isplitr; swap; · iexact H9
    ipureintro
    have l4 (r : Rect S32x128) : View.readAt (Elt F) arg4.view r.toLoadRect (harg4.unread x3) = View.ld x3 r := funext fun x => harg4.readAt_unread x3 _ x
    have l5 (r : Rect S4x128x512) : View.readAt (Elt F) arg5.view r.toLoadRect (harg5.unread x4) = View.ld x4 r := funext fun x => harg5.readAt_unread x4 _ x
    refine Eq.trans ?_ (read_cols arg10.view f9 (fun k => matmul dot_S32x128_S128x512_S32x512_1_0_0_1_n_n none x3 (slab x4 k) (constant S32x512 .f32 0x00000000#32))
      inb_S32x2048_S32x512_0_1536 inb_S32x2048_S32x512_0_1024 inb_S32x2048_S32x512_0_512 inb_S32x2048_S32x512_0_0)
    delta run_memory.sl.r_4 run_memory.sl.r_10
    simp only [l4, l5]
    rw [← noise_of_loads x3 x4 3 inb_S32x128_S32x128_0_0 inb_S4x128x512_S1x128x512_3_0_0, ← noise_of_loads x3 x4 2 inb_S32x128_S32x128_0_0 inb_S4x128x512_S1x128x512_2_0_0,
      ← noise_of_loads x3 x4 1 inb_S32x128_S32x128_0_0 inb_S4x128x512_S1x128x512_1_0_0, ← noise_of_loads x3 x4 0 inb_S32x128_S32x128_0_0 inb_S4x128x512_S1x128x512_0_0_0]
    rfl
  isplitl [H10]
  · iexists _; isplitr; swap; · iexact H10
    ipureintro; exact hf10
  iexists _; isplitr; swap; · iexact H11
  ipureintro
  have l1 (r : Rect S512) : View.readAt (Elt F) arg1.view r.toLoadRect (harg1.unread x0) = View.ld x0 r := funext fun x => harg1.readAt_unread x0 _ x
  have l5 (r : Rect S4x128x512) : View.readAt (Elt F) arg5.view r.toLoadRect (harg5.unread x4) = View.ld x4 r := funext fun x => harg5.readAt_unread x4 _ x
  have l7 (r : Rect S4x128x512) : View.readAt (Elt F) arg7.view r.toLoadRect (harg7.unread x6) = View.ld x6 r := funext fun x => harg7.readAt_unread x6 _ x
  refine Eq.trans ?_ (read_slabs arg12.view f11 (fun k => normed (updated (wgt x0 i k) (slab x4 k) x6))
    inb_S4x128x512_S1x128x512_3_0_0 inb_S4x128x512_S1x128x512_2_0_0 inb_S4x128x512_S1x128x512_1_0_0 inb_S4x128x512_S1x128x512_0_0_0)
  delta run_memory.sl.r_5 run_memory.sl.r_6 run_memory.sl.r_2 run_memory.sl.r_7 run_memory.sl.r_8 run_memory.sl.r_9 run_memory.sl.r_16 run_memory.sl.r_17 run_memory.sl.r_20 run_memory.sl.r_21 run_memory.sl.r_19 run_memory.sl.r_22 run_memory.sl.r_23 run_memory.sl.r_24 run_memory.sl.r_28 run_memory.sl.r_29 run_memory.sl.r_30 run_memory.sl.r_31
  delta run_memory.sl.r run_memory.sl.r_1 run_memory.sl.r_11 run_memory.sl.r_12 run_memory.sl.r_13 run_memory.sl.r_14 run_memory.sl.r_15 run_memory.sl.r_18 run_memory.sl.r_25 run_memory.sl.r_26 run_memory.sl.r_27
  simp only [l1, l5, l7]
  have hb : ∀ k' : Fin 4, ∀ a : Fin 3, (![k'.val, 0, 0] : Fin 3 → ℕ) a + S1x128x512.size a ≤ S4x128x512.size a := by decide
  simp only [← memOfLoads_eq x0 x4 x6 i hc0 (Shape.Idx.first (numel1_S1.symm ▸ Nat.one_pos)) _ hb]
  rfl

end Cert.Mesh

end
-- ==== Proof.RunClutter.lean ====
/- The body's run at a grid point of the clutter part, from the staging buffers' contents to what it leaves in each. -/
module

public import proofs.«01_k».proof.Proof.Outs
public import proofs.«01_k».proof.Proof.Gen.KernelIdeal.Points
public import proofs.«01_k».proof.Proof.Gen.KernelIdeal.Frame

@[expose] public section

set_option maxRecDepth 16384

noncomputable section

namespace Cert.Mesh

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- The body at a point of the clutter part: the vertex products and the clutter block are stored, the noise and memory
buffers are left as they are. -/
theorem run_clutter (c : Dev nD) (i : grid0.Coords)
    (arg1 : Memref sig .tc .smem S512 .f32) (harg1 : arg1.IsWhole)
    (arg2 : Memref sig .tc .smem S1 .i32) (harg2 : arg2.IsWhole)
    (arg3 : Memref sig .tc .vmem S2048x128 .f32) (harg3 : arg3.IsWhole)
    (arg4 : Memref sig .tc .vmem S32x128 .f32) (harg4 : arg4.IsWhole)
    (arg5 : Memref sig .tc .vmem S4x128x512 .f32) (harg5 : arg5.IsWhole)
    (arg6 : Memref sig .tc .vmem S128x2048 .f32) (harg6 : arg6.IsWhole)
    (arg7 : Memref sig .tc .vmem S4x128x512 .f32) (harg7 : arg7.IsWhole)
    (arg8 : Memref sig .tc .vmem S128x32 .f32) (harg8 : arg8.IsWhole)
    (arg9 : Memref sig .tc .vmem S2048x2048 .f32) (harg9 : arg9.IsWhole)
    (arg10 : Memref sig .tc .vmem S32x2048 .f32) (harg10 : arg10.IsWhole)
    (arg11 : Memref sig .tc .vmem S128x2048 .f32) (harg11 : arg11.IsWhole)
    (arg12 : Memref sig .tc .vmem S4x128x512 .f32) (harg12 : arg12.IsWhole)
    (hc0 : ¬ k0_cond1 i = 1#1) (hc1 : k0_cond2 i = 1#1)
    (x0 : Vec F S512 .f32) (x1 : Vec F S1 .i32) (x2 : Vec F S2048x128 .f32) (x3 : Vec F S32x128 .f32) (x4 : Vec F S4x128x512 .f32) (x5 : Vec F S128x2048 .f32) (x6 : Vec F S4x128x512 .f32) (x7 : Vec F S128x32 .f32)
    (d9 : Vec F S32x2048 .f32) (d11 : Vec F S4x128x512 .f32) (E : Set ℕ) (K : PUnit → sProp 𝕄) :
    iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ (∃ d, owns (c : Thread nD τ) arg9 fullShare d)
          ∗ owns (c : Thread nD τ) arg10 fullShare d9
          ∗ (∃ d, owns (c : Thread nD τ) arg11 fullShare d)
          ∗ owns (c : Thread nD τ) arg12 fullShare d11
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare (outSimClutter x2 x5)
          ∗ owns (c : Thread nD τ) arg10 fullShare d9
          ∗ owns (c : Thread nD τ) arg11 fullShare (outClutter x1 x5 x7 i)
          ∗ owns (c : Thread nD τ) arg12 fullShare d11) -∗ K ⟨⟩))
      ⊢ wp frame (wpE (defs₀ (F := F)) Variants.none c none) E
          (cc0_mesh_memory_fused i arg1 harg1 arg2 harg2 arg3 harg3 arg4 harg4 arg5 harg5 arg6 harg6 arg7 harg7 arg8 harg8 arg9 harg9 arg10 harg10 arg11 harg11 arg12 harg12) K := by
  simp only [cc0_mesh_memory_fused_eq_skeleton]; unfold cc0_mesh_memory_fused_skel
  simp only [k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro
    have l3 (r : Rect S2048x128) : View.readAt (Elt F) arg3.view r.toLoadRect (harg3.unread x2) = View.ld x2 r := funext fun x => harg3.readAt_unread x2 _ x
    have l6 (r : Rect S128x2048) : View.readAt (Elt F) arg6.view r.toLoadRect (harg6.unread x5) = View.ld x5 r := funext fun x => harg6.readAt_unread x5 _ x
    refine Eq.trans ?_ (read_whole arg9.view f8 (outSimClutter x2 x5) inb_S2048x2048_S2048x2048_0_0)
    simp only [l3, l6]
    rw [← simClutter_of_loads x2 x5 inb_S2048x128_S2048x128_0_0 inb_S128x2048_S128x2048_0_0]
  isplitl [H9]
  · iexists _; isplitr; swap; · iexact H9
    ipureintro; exact hf9
  isplitl [H10]
  · iexists _; isplitr; swap; · iexact H10
    ipureintro
    have l2 (r : Rect S1) : View.readAt (Elt F) arg2.view r.toLoadRect (harg2.unread x1) = View.ld x1 r := funext fun x => harg2.readAt_unread x1 _ x
    have l6 (r : Rect S128x2048) : View.readAt (Elt F) arg6.view r.toLoadRect (harg6.unread x5) = View.ld x5 r := funext fun x => harg6.readAt_unread x5 _ x
    have l8 (r : Rect S128x32) : View.readAt (Elt F) arg8.view r.toLoadRect (harg8.unread x7) = View.ld x7 r := funext fun x => harg8.readAt_unread x7 _ x
    refine Eq.trans ?_ (read_whole arg11.view f10 (outClutter x1 x5 x7 i) inb_S128x2048_S128x2048_0_0)
    delta run_clutter.sl.r_1 run_clutter.sl.r
    simp only [l2, l6, l8]
    have e5 : View.ld (Val := Elt F) (e' := .f32) x5 (Rect.unit (s := S128x2048) ![0, 0] S128x2048.size inb_S128x2048_S128x2048_0_0) = x5 := load_whole x5 _
    have e7 : View.ld (Val := Elt F) (e' := .f32) x7 (Rect.unit (s := S128x32) ![0, 0] S128x32.size inb_S128x32_S128x32_0_0) = x7 := load_whole x7 _
    have e2 (z : S1.Idx) : View.ld (Val := Elt F) (e' := .i32) x1 (Rect.unit (s := S1) ![0] S1.size inb_S1_S1_0) z = x1 (ix1 0) := by
      refine congrArg x1 (funext fun a => Fin.ext ?_)
      match a with
      | ⟨0, _⟩ =>
        have hz : (z 0).val < 1 := (z 0).isLt
        show 0 + 1 * (z 0).val = 0
        omega
    rw [e5, e7, e2]
    unfold outClutter
    rfl
  iexists _; isplitr; swap; · iexact H11
  ipureintro; exact hf11

end Cert.Mesh

end
-- ==== Proof.Run.lean ====
/- The kernel's run: what each window's staging buffer holds after the body at every grid point (the proof data), the body
   obligation from the two runs, and the launch: every weakly fair execution ends with each window's array as the data say,
   every other buffer as the host lines leave it, and every counter at zero. -/
module

public import proofs.«01_k».proof.Proof.RunMemory
public import proofs.«01_k».proof.Proof.RunClutter

@[expose] public section

set_option maxRecDepth 16384

noncomputable section

namespace Cert.Mesh

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the two parts -/

/-- The first sixteen points are the memory part. -/
theorem memory_iff : ∀ t : Fin cfg0.N, k0_cond1 (grid0.coords t) = 1#1 ↔ t.val < 16 :=
  (by decide +kernel : ∀ t : Fin grid0.N, k0_cond1 (grid0.coords t) = 1#1 ↔ t.val < 16)
/-- The others are the clutter part. -/
theorem clutter_iff : ∀ t : Fin cfg0.N, k0_cond2 (grid0.coords t) = 1#1 ↔ 16 ≤ t.val :=
  (by decide +kernel : ∀ t : Fin grid0.N, k0_cond2 (grid0.coords t) = 1#1 ↔ 16 ≤ t.val)
/-- The grid's coordinate is the point's number. -/
theorem coord_val : ∀ t : Fin cfg0.N, (grid0.coords t 0).val = t.val :=
  (by decide +kernel : ∀ t : Fin grid0.N, (grid0.coords t 0).val = t.val)
/-- The vertex products' window is stored into at every point. -/
theorem idle_sim (t : Fin cfg0.N) : cfg0.idle 8 (grid0.coords t) = false :=
  (by decide +kernel : ∀ t : Fin grid0.N, idle0 8 (grid0.coords t) = false) t
/-- The memory part's windows are idle exactly in the clutter part, -/
theorem idle_memory (t : Fin cfg0.N) :
    cfg0.idle 9 (grid0.coords t) = decide (16 ≤ t.val) ∧ cfg0.idle 11 (grid0.coords t) = decide (16 ≤ t.val) :=
  (by decide +kernel : ∀ t : Fin grid0.N, idle0 9 (grid0.coords t) = decide (16 ≤ t.val) ∧ idle0 11 (grid0.coords t) = decide (16 ≤ t.val)) t
/-- and the clutter part's window exactly in the memory part, -/
theorem idle_clutter (t : Fin cfg0.N) : cfg0.idle 10 (grid0.coords t) = decide (t.val < 16) :=
  (by decide +kernel : ∀ t : Fin grid0.N, idle0 10 (grid0.coords t) = decide (t.val < 16)) t
/-- where it is not written back. -/
theorem flush_clutter (t : Fin cfg0.N) : (cfg0.win 10).flush t = decide (16 ≤ t.val) :=
  (by decide +kernel : ∀ t : Fin grid0.N, win0_10.flush t = decide (16 ≤ t.val)) t
/-- The memory part's windows are written back at each of its points but the last, and at the grid's last point. -/
theorem flush_memory (t : Fin cfg0.N) :
    (cfg0.win 9).flush t = decide (t.val < 15 ∨ t.val = 25) ∧ (cfg0.win 11).flush t = decide (t.val < 15 ∨ t.val = 25) :=
  (by decide +kernel : ∀ t : Fin grid0.N, win0_9.flush t = decide (t.val < 15 ∨ t.val = 25) ∧ win0_11.flush t = decide (t.val < 15 ∨ t.val = 25)) t

/-- The memory point whose blocks the memory part's windows hold at a point: itself, or the last one. -/
def memPoint (t : Fin cfg0.N) : Fin cfg0.N := ⟨min t.val 15, lt_of_le_of_lt (min_le_left _ _) t.isLt⟩

/-- Before point 16 it is the point itself; -/
theorem memPoint_of_lt (t : Fin cfg0.N) (h : t.val < 16) : memPoint t = t := Fin.ext (min_eq_left (by omega))
/-- from point 15 on it does not change. -/
theorem memPoint_of_ge (t s : Fin cfg0.N) (h : 15 ≤ t.val) (hs : 15 ≤ s.val) : memPoint t = memPoint s :=
  Fin.ext ((min_eq_right h).trans (min_eq_right hs).symm)

/-! ## The proof data -/

/-- The proof data on core `c`: the arrays as the region finds them; after the body at point `t` each input's buffer at its
block, each output's at what the point's part of the body stores, the memory part's windows keeping the last memory point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => if t.val < 16 then outSim (F := F) (iblk m c 2 t) (iblk m c 4 t) else outSimClutter (F := F) (iblk m c 2 t) (iblk m c 5 t)
    | ⟨9, _⟩ => outNoise (F := F) (iblk m c 3 (memPoint t)) (iblk m c 4 (memPoint t))
    | ⟨10, _⟩ => outClutter (F := F) (iblk m c 1 t) (iblk m c 5 t) (iblk m c 7 t) (grid0.coords t)
    | ⟨11, _⟩ => outMem (F := F) (iblk m c 0 (memPoint t)) (iblk m c 4 (memPoint t)) (iblk m c 6 (memPoint t)) (grid0.coords (memPoint t))
  Φ _ := Pipeline.ΦA spec0 c
  q _ := fullShare
  owed _ := 0

/-- The arrays at the launch are what the host lines left. -/
theorem A_eq (c : Dev nD) (w : Fin cfg0.W) : (dats m 0 c).A w = V m c (Pipeline.arrRef spec0 w) := by dsimp only [dats]

/-- An input window holds its block after the body. -/
theorem after_in (c : Dev nD) (t : Fin cfg0.N) :
    (dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = iblk m c 4 t ∧ (dats m 0 c).after 5 t = iblk m c 5 t
      ∧ (dats m 0 c).after 6 t = iblk m c 6 t ∧ (dats m 0 c).after 7 t = iblk m c 7 t := by
  dsimp only [dats]; exact ⟨rfl, rfl, rfl, rfl, rfl, rfl, rfl, rfl⟩

/-- What the data say of the vertex products, -/
theorem after_sim (c : Dev nD) (t : Fin cfg0.N) : (dats m 0 c).after 8 t
    = if t.val < 16 then outSim (F := F) (iblk m c 2 t) (iblk m c 4 t) else outSimClutter (F := F) (iblk m c 2 t) (iblk m c 5 t) := by dsimp only [dats]
/-- of the noise products, -/
theorem after_noise (c : Dev nD) (t : Fin cfg0.N) :
    (dats m 0 c).after 9 t = outNoise (F := F) (iblk m c 3 (memPoint t)) (iblk m c 4 (memPoint t)) := by dsimp only [dats]
/-- of the new bank -/
theorem after_clutter (c : Dev nD) (t : Fin cfg0.N) :
    (dats m 0 c).after 10 t = outClutter (F := F) (iblk m c 1 t) (iblk m c 5 t) (iblk m c 7 t) (grid0.coords t) := by dsimp only [dats]
/-- and of the new memory. -/
theorem after_mem (c : Dev nD) (t : Fin cfg0.N) : (dats m 0 c).after 11 t
    = outMem (F := F) (iblk m c 0 (memPoint t)) (iblk m c 4 (memPoint t)) (iblk m c 6 (memPoint t)) (grid0.coords (memPoint t)) := by dsimp only [dats]

/-! ## The idle points -/

/-- A window written at point 15, then left alone and not written back until point 25, holds at every later point what it held
after point 15. -/
theorem before_carried {c : Dev nD} (dat : Dat τ (Elt F) Unit ℕ (UR sig nD τ) ℕ cfg0 c) (w : Fin cfg0.W) (hout : (cfg0.win w).isOut = true)
    (hidle : ∀ t : Fin cfg0.N, cfg0.idle w (grid0.coords t) = decide (16 ≤ t.val))
    (hflush : ∀ t : Fin cfg0.N, (cfg0.win w).flush t = decide (t.val < 15 ∨ t.val = 25))
    (hclip : ∀ (i : cfg0.grid.Coords) a, (cfg0.win w).clip i a = none)
    (hcarry : ∀ t s : Fin cfg0.N, 15 ≤ t.val → 15 ≤ s.val → dat.after w t = dat.after w s) (d) :
    ∀ (n : ℕ) (t : Fin cfg0.N), t.val = 16 + n → dat.before w t d = dat.after w t := by
  have hN : ∀ t : Fin cfg0.N, t.val < 26 := fun t => lt_of_lt_of_eq t.isLt (show cfg0.N = 26 from N_0)
  intro n
  induction n with
  | zero =>
    intro t ht
    rw [dat.before_of_pos w t (by omega) ((cfg0.win w).fetch_out hout t), hflush,
      decide_eq_false (by simp only; omega), if_neg Bool.false_ne_true]
    unfold Dat.left
    have e : cfg0.idle w (cfg0.grid.coords ⟨t.val - 1, Nat.lt_of_le_of_lt (Nat.sub_le _ _) t.isLt⟩) = false :=
      (hidle _).trans (decide_eq_false (by simp only; omega))
    rw [e]
    dsimp only
    unfold Dat.kept
    rw [Pipeline.fill_of_clip_none w _ (hclip _) d (dat.after w _), Window.fill_cut]
    exact hcarry _ _ (by simp only; omega) (by omega)
  | succ n ih =>
    intro t ht
    have := hN t
    rw [dat.before_of_pos w t (by omega) ((cfg0.win w).fetch_out hout t), hflush,
      decide_eq_false (by simp only; omega), if_neg Bool.false_ne_true]
    unfold Dat.left
    have e : cfg0.idle w (cfg0.grid.coords ⟨t.val - 1, Nat.lt_of_le_of_lt (Nat.sub_le _ _) t.isLt⟩) = true :=
      (hidle _).trans (decide_eq_true (by simp only; omega))
    rw [e]
    dsimp only
    rw [ih _ (by simp only; omega)]
    exact hcarry _ _ (by simp only; omega) (by omega)

/-- So in the clutter part the memory part's windows hold the last memory point's results. -/
theorem before_noise (c : Dev nD) (t : Fin cfg0.N) (h : 16 ≤ t.val) (d) : (dats m 0 c).before 9 t d = (dats m 0 c).after 9 t :=
  before_carried (dats m 0 c) 9 rfl (fun t => (idle_memory t).1) (fun t => (flush_memory t).1) (fun _ _ => rfl)
    (fun t s ht hs => by rw [after_noise, after_noise, memPoint_of_ge t s ht hs]) d (t.val - 16) t (by omega)
/-- The same of the new memory's window. -/
theorem before_mem (c : Dev nD) (t : Fin cfg0.N) (h : 16 ≤ t.val) (d) : (dats m 0 c).before 11 t d = (dats m 0 c).after 11 t :=
  before_carried (dats m 0 c) 11 rfl (fun t => (idle_memory t).2) (fun t => (flush_memory t).2) (fun _ _ => rfl)
    (fun t s ht hs => by rw [after_mem, after_mem, memPoint_of_ge t s ht hs]) d (t.val - 16) t (by omega)

/-- A window left as found meets the body's post where it is idle, if what it held is what a write-back there must write. -/
theorem leaves_found {c : Dev nD} (dat : Dat τ (Elt F) Unit ℕ (UR sig nD τ) ℕ cfg0 c) (w : Fin cfg0.W) (t : Fin cfg0.N) (d)
    (hi : cfg0.idle w (cfg0.grid.coords t) = true) (h : (cfg0.win w).flush t = true → dat.before w t d = dat.after w t) :
    (owns (c : Thread nD τ) ((cfg0.win w).stage (cfg0.slots t w)) fullShare (dat.before w t d) : sProp 𝕄) ⊢ dat.leavesExact w t := by
  unfold Dat.leavesExact
  rw [hi]
  cases hf : (cfg0.win w).flush t
  · dsimp only; iintro H; iexists d; iexact H
  · dsimp only; rw [h hf]

/-- Where a window is not idle the post is what the data say. -/
theorem leaves_live {c : Dev nD} (dat : Dat τ (Elt F) Unit ℕ (UR sig nD τ) ℕ cfg0 c) (w : Fin cfg0.W) (t : Fin cfg0.N) (X)
    (hi : cfg0.idle w (cfg0.grid.coords t) = false) (h : dat.after w t = X) :
    dat.leavesExact w t = owns (c : Thread nD τ) ((cfg0.win w).stage (cfg0.slots t w)) fullShare X := by
  unfold Dat.leavesExact; rw [hi, h]

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t)

/-- The body meets its obligation at every point: its inputs' buffers hold their blocks, so the run of the point's part applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨a0, a1, a2, a3, a4, a5, a6, a7⟩ := (⟨fun t => (after_in m c t).1, fun t => (after_in m c t).2.1, fun t => (after_in m c t).2.2.1,
    fun t => (after_in m c t).2.2.2.1, fun t => (after_in m c t).2.2.2.2.1, fun t => (after_in m c t).2.2.2.2.2.1,
    fun t => (after_in m c t).2.2.2.2.2.2.1, fun t => (after_in m c t).2.2.2.2.2.2.2⟩ :
    (∀ t, (dats m 0 c).after 0 t = iblk m c 0 t) ∧ (∀ t, (dats m 0 c).after 1 t = iblk m c 1 t) ∧ (∀ t, (dats m 0 c).after 2 t = iblk m c 2 t)
      ∧ (∀ t, (dats m 0 c).after 3 t = iblk m c 3 t) ∧ (∀ t, (dats m 0 c).after 4 t = iblk m c 4 t) ∧ (∀ t, (dats m 0 c).after 5 t = iblk m c 5 t)
      ∧ (∀ t, (dats m 0 c).after 6 t = iblk m c 6 t) ∧ (∀ t, (dats m 0 c).after 7 t = iblk m c 7 t))
  simp only [before0_0_of m (dats m 0 c) (A_eq m c 0) a0, before0_1_of m (dats m 0 c) (A_eq m c 1) a1, before0_2_of m (dats m 0 c) (A_eq m c 2) a2,
    before0_3_of m (dats m 0 c) (A_eq m c 3) a3, before0_4_of m (dats m 0 c) (A_eq m c 4) a4, before0_5_of m (dats m 0 c) (A_eq m c 5) a5,
    before0_6_of m (dats m 0 c) (A_eq m c 6) a6, before0_7_of m (dats m 0 c) (A_eq m c 7) a7]
  rw [show (dats m 0 c).Φ t.succ = (dats m 0 c).Φ t.castSucc from rfl,
    show (dats m 0 c).owesAt () t.succ = (dats m 0 c).owesAt () t.castSucc from rfl,
    leaves_live (dats m 0 c) 0 t _ rfl (a0 t), leaves_live (dats m 0 c) 1 t _ rfl (a1 t), leaves_live (dats m 0 c) 2 t _ rfl (a2 t),
    leaves_live (dats m 0 c) 3 t _ rfl (a3 t), leaves_live (dats m 0 c) 4 t _ rfl (a4 t), leaves_live (dats m 0 c) 5 t _ rfl (a5 t),
    leaves_live (dats m 0 c) 6 t _ rfl (a6 t), leaves_live (dats m 0 c) 7 t _ rfl (a7 t)]
  by_cases h : t.val < 16
  · rw [leaves_live (dats m 0 c) 8 t _ (idle_sim t) ((after_sim m c t).trans (if_pos h)),
      leaves_live (dats m 0 c) 9 t (outNoise (F := F) (iblk m c 3 t) (iblk m c 4 t)) ((idle_memory t).1.trans (decide_eq_false (by omega)))
        (by rw [after_noise, memPoint_of_lt t h]),
      leaves_live (dats m 0 c) 11 t (outMem (F := F) (iblk m c 0 t) (iblk m c 4 t) (iblk m c 6 t) (grid0.coords t)) ((idle_memory t).2.trans (decide_eq_false (by omega)))
        (by rw [after_mem, memPoint_of_lt t h])]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_memory c (grid0.coords t) _ _ _ _ _ _ _ _ _ _ _ _ _ _ _ _ _ _ _ _ _ _ _ _ ((memory_iff t).mpr h)
      (fun e => absurd ((clutter_iff t).mp e) (by omega)) (iblk m c 0 t) (iblk m c 1 t) (iblk m c 2 t) (iblk m c 3 t) (iblk m c 4 t)
      (iblk m c 5 t) (iblk m c 6 t) (iblk m c 7 t) ((dats m 0 c).before 10 t d10) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexists _; iexact H11
    iintro ⟨H0, H1, H2, H3, H4, H5, H6, H7, H8, H9, H10, H11⟩
    ihave H10 := (leaves_found (dats m 0 c) 10 t d10 ((idle_clutter t).trans (decide_eq_true h))
      (fun e => absurd ((flush_clutter t).symm.trans e) (by rw [decide_eq_false (by omega)]; exact Bool.false_ne_true))) $$ H10
    iframe
  · rw [leaves_live (dats m 0 c) 8 t _ (idle_sim t) ((after_sim m c t).trans (if_neg h)),
      leaves_live (dats m 0 c) 10 t _ ((idle_clutter t).trans (decide_eq_false h)) (after_clutter m c t)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_clutter c (grid0.coords t) _ _ _ _ _ _ _ _ _ _ _ _ _ _ _ _ _ _ _ _ _ _ _ _
      (fun e => absurd ((memory_iff t).mp e) h) ((clutter_iff t).mpr (by omega)) (iblk m c 0 t) (iblk m c 1 t) (iblk m c 2 t) (iblk m c 3 t) (iblk m c 4 t)
      (iblk m c 5 t) (iblk m c 6 t) (iblk m c 7 t) ((dats m 0 c).before 9 t d9) ((dats m 0 c).before 11 t d11) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    isplitl [H11]; · iexact H11
    iintro ⟨H0, H1, H2, H3, H4, H5, H6, H7, H8, H9, H10, H11⟩
    ihave H9 := (leaves_found (dats m 0 c) 9 t d9 ((idle_memory t).1.trans (decide_eq_true (by omega))) (fun _ => before_noise m c t (by omega) d9)) $$ H9
    ihave H11 := (leaves_found (dats m 0 c) 11 t d11 ((idle_memory t).2.trans (decide_eq_true (by omega))) (fun _ => before_mem m c t (by omega) d11)) $$ H11
    iframe

/-- The body table's row at point `t`'s slots is the body on the point's buffers. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
/-- Every weakly fair execution ends with the windows' arrays as the data say, the other buffers as the host lines leave them, and
every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- THE FRAME: every weakly fair execution leaves the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (frame_of m ρ (dats m) (A_eq m)) (run_main m ρ)

end Cert.Mesh

end
-- ==== Proof.SameText.lean ====
/- The printed program and its idealization are one text, so the frame proved for the one at every float model is the frame of
   the other: their buffers, their operations and their kernel agree by unfolding. -/
module

public import proofs.«01_k».proof.Defs
public import proofs.«01_k».proof.Proof.Gen.Kernel
public import proofs.«01_k».proof.Proof.Run

@[expose] public section

set_option maxRecDepth 65536
set_option maxHeartbeats 40000000
set_option backward.isDefEq.respectTransparency.types false

namespace Cert.Mesh

open Idealize.ShloMosaic Idealize.ShloMosaic.TcCoe Idealize.SL.Sem

variable {F : FTy → Type} [FloatOps F] [hK : Cert.Kernel.Facts] [hI : Cert.KernelIdeal.Facts]

/-- The kernel's body is the idealization's, -/
theorem body_same : Cert.Kernel.cc0_mesh_memory_fused (F := F) = Cert.KernelIdeal.cc0_mesh_memory_fused (F := F) := rfl

/-- so is the table of bodies, -/
theorem bodies_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) (funext fun l => ?_)
  match l with
  | 0 => exact funext fun a => rfl

/-- the pipelines, -/
theorem pipelines_same : Cert.Kernel.pcfgs (F := F) = Cert.KernelIdeal.pcfgs (F := F) := rfl

/-- and the two parts of the host program. -/
theorem part0_same (d : Dev Cert.KernelIdeal.nD) : Cert.Kernel.main_part0 (F := F) d = Cert.KernelIdeal.main_part0 (F := F) d := rfl
/-- The second half of the host program is the same in both. -/
theorem part1_same (d : Dev Cert.KernelIdeal.nD) : Cert.Kernel.main_part1 (F := F) d = Cert.KernelIdeal.main_part1 (F := F) d := rfl

end Cert.Mesh
-- ==== Proof.SameProgram.lean ====
/- The printed program's host program and its idealization's are equal, part by part. -/
module

public import proofs.«01_k».proof.Proof.SameText

@[expose] public section

set_option maxRecDepth 65536
set_option maxHeartbeats 40000000
set_option backward.isDefEq.respectTransparency.types false

namespace Cert.Mesh

open Idealize.ShloMosaic Idealize.ShloMosaic.TcCoe Idealize.SL.Sem

variable {F : FTy → Type} [FloatOps F]

/-- Two steps in a row, each rewritten. -/
theorem steps_congr {M : Type → Type 1} [Monad M] {a a' b b' : M PUnit} (ha : a = a') (hb : b = b') :
    (do a; b) = (do a'; b') := by rw [ha, hb]

section
variable [hK : Cert.Kernel.Facts] [hI : Cert.KernelIdeal.Facts]

/-- The host program is the idealization's. -/
theorem main_same : Cert.Kernel.main (F := F) = Cert.KernelIdeal.main (F := F) := funext fun d => by
  have h := steps_congr (part0_same (F := F) d) (part1_same (F := F) d)
  exact h
end

end Cert.Mesh
-- ==== Proof.FrameKernel.lean ====
/- The printed program's frame: its idealization's, the two being one text. -/
module

public import proofs.«01_k».proof.Proof.SameProgram

@[expose] public section

set_option maxRecDepth 65536
set_option maxHeartbeats 40000000
set_option backward.isDefEq.respectTransparency.types false

namespace Cert.Mesh

open Idealize.ShloMosaic Idealize.ShloMosaic.TcCoe Idealize.SL.Sem

variable {F : FTy → Type} [FloatOps F]

section
variable [hK : Cert.Kernel.Facts] [hI : Cert.KernelIdeal.Facts]

/-- The definitions that the host program runs under are the idealization's. -/
theorem defs_same : Cert.Kernel.defs (F := F) = Cert.KernelIdeal.defs (F := F) := by
  have h := congrArg (Pipeline.defs (Cert.KernelIdeal.pcfgs (F := F))) (bodies_same (F := F))
  exact h
end

open Cert.Kernel

/-- Every weakly fair execution of the printed program leaves the arguments unchanged and every counter at zero. -/
theorem frame_kernel (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := frame (F := F) m ρ
  rw [← main_same (F := F), ← defs_same (F := F)] at h
  exact h

end Cert.Mesh
-- ==== Proof.Blocks.lean ====
/- Where each window's block lies in its array: the fixed windows hold their whole array, the memory windows four classes at a
   time, the clutter windows and the vertex products 2048 columns at a time. -/
module

public import proofs.«01_k».proof.Proof.Run
public import Idealize.ShloMosaic.Lib.Pipeline.Value

@[expose] public section

set_option maxRecDepth 16384

noncomputable section

namespace Cert.Mesh

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (c : Dev nD)

/-! ## The block indices over the grid -/

/-- The memory window's block is the point's, and the last one's in the clutter part. -/
theorem index_mem : ∀ t : Fin grid0.N, cc0_transform_4 (grid0.coords t) = ![min t.val 15, 0, 0] := by decide +kernel
/-- The bank's block is the point's, counted from point 16. -/
theorem index_clutter : ∀ t : Fin grid0.N, cc0_transform_5 (grid0.coords t) = ![0, t.val - 16] := by decide +kernel
/-- The vertex products' block is the point's. -/
theorem index_out_sim : ∀ t : Fin grid0.N, cc0_transform_8 (grid0.coords t) = ![0, t.val] := by decide +kernel
/-- The noise products' block is the point's up to point 15. -/
theorem index_out_noise : ∀ t : Fin grid0.N, cc0_transform_9 (grid0.coords t) = ![0, min t.val 15] := by decide +kernel
/-- The new bank's block is the point's, counted from point 16. -/
theorem index_out_clutter : ∀ t : Fin grid0.N, cc0_transform_10 (grid0.coords t) = ![0, t.val - 16] := by decide +kernel
/-- The new memory's block is the point's up to point 15. -/
theorem index_out_mem : ∀ t : Fin grid0.N, cc0_transform_11 (grid0.coords t) = ![min t.val 15, 0, 0] := by decide +kernel

/-- There are twenty-six points. -/
theorem point_lt (t : Fin cfg0.N) : t.val < 26 := lt_of_lt_of_eq t.isLt (show cfg0.N = 26 from N_0)

/-! ## The input blocks -/

/-- The weights' block is the whole array, -/
theorem block_weights (t : Fin cfg0.N) (y : S512.Idx) : iblk m c 0 t y = V m c main_v34 y := by
  refine congrArg (V m c main_v34) (funext fun a => Fin.ext ?_)
  refine (win0_0.rect_emb_val_off t y a).trans ?_
  match a with
  | ⟨0, _⟩ => show 0 * 512 + (y 0).val = (y 0).val; omega
/-- so is the offset's, -/
theorem block_offset (t : Fin cfg0.N) (y : S1.Idx) : iblk m c 1 t y = V m c main_v44 y := by
  refine congrArg (V m c main_v44) (funext fun a => Fin.ext ?_)
  refine (win0_1.rect_emb_val_off t y a).trans ?_
  match a with
  | ⟨0, _⟩ => show 0 * 1 + (y 0).val = (y 0).val; omega
/-- the vertex rows', -/
theorem block_vertex (t : Fin cfg0.N) (y : S2048x128.Idx) : iblk m c 2 t y = V m c main_v2 y := by
  refine congrArg (V m c main_v2) (funext fun a => Fin.ext ?_)
  refine (win0_2.rect_emb_val_off t y a).trans ?_
  match a with
  | ⟨0, _⟩ => show 0 * 2048 + (y 0).val = (y 0).val; omega
  | ⟨1, _⟩ => show 0 * 128 + (y 1).val = (y 1).val; omega
/-- the noise rows', -/
theorem block_noise (t : Fin cfg0.N) (y : S32x128.Idx) : iblk m c 3 t y = V m c main_v6 y := by
  refine congrArg (V m c main_v6) (funext fun a => Fin.ext ?_)
  refine (win0_3.rect_emb_val_off t y a).trans ?_
  match a with
  | ⟨0, _⟩ => show 0 * 32 + (y 0).val = (y 0).val; omega
  | ⟨1, _⟩ => show 0 * 128 + (y 1).val = (y 1).val; omega
/-- the visible features', -/
theorem block_visible (t : Fin cfg0.N) (y : S4x128x512.Idx) : iblk m c 6 t y = V m c main_v39 y := by
  refine congrArg (V m c main_v39) (funext fun a => Fin.ext ?_)
  refine (win0_6.rect_emb_val_off t y a).trans ?_
  match a with
  | ⟨0, _⟩ => show 0 * 4 + (y 0).val = (y 0).val; omega
  | ⟨1, _⟩ => show 0 * 128 + (y 1).val = (y 1).val; omega
  | ⟨2, _⟩ => show 0 * 512 + (y 2).val = (y 2).val; omega
/-- and the noise columns'. -/
theorem block_noise_cols (t : Fin cfg0.N) (y : S128x32.Idx) : iblk m c 7 t y = V m c main_v7 y := by
  refine congrArg (V m c main_v7) (funext fun a => Fin.ext ?_)
  refine (win0_7.rect_emb_val_off t y a).trans ?_
  match a with
  | ⟨0, _⟩ => show 0 * 128 + (y 0).val = (y 0).val; omega
  | ⟨1, _⟩ => show 0 * 32 + (y 1).val = (y 1).val; omega

/-- The memory block of a point: its four classes. -/
theorem block_mem (t : Fin cfg0.N) (y : S4x128x512.Idx) :
    iblk m c 4 t y = V m c main_arg3 (ix3 ⟨min t.val 15 * 4 + (y 0).val, by have : (y 0).val < 4 := (y 0).isLt; omega⟩ (y 1) (y 2)) := by
  refine congrArg (V m c main_arg3) (funext fun a => Fin.ext ?_)
  refine (win0_4.rect_emb_val_off t y a).trans ?_
  have e : win0_4.index t = ![min t.val 15, 0, 0] := index_mem t
  rw [e]
  match a with
  | ⟨0, _⟩ => rfl
  | ⟨1, _⟩ => show 0 * 128 + (y 1).val = (y 1).val; omega
  | ⟨2, _⟩ => show 0 * 512 + (y 2).val = (y 2).val; omega

/-- The clutter block of a point: its 2048 columns. -/
theorem block_clutter (t : Fin cfg0.N) (y : S128x2048.Idx) :
    iblk m c 5 t y = V m c main_arg4 (ix2 (y 0) ⟨(t.val - 16) * 2048 + (y 1).val, by
      have : (y 1).val < 2048 := (y 1).isLt; have := point_lt t; omega⟩) := by
  refine congrArg (V m c main_arg4) (funext fun a => Fin.ext ?_)
  refine (win0_5.rect_emb_val_off t y a).trans ?_
  have e : win0_5.index t = ![0, t.val - 16] := index_clutter t
  rw [e]
  match a with
  | ⟨0, _⟩ => show 0 * 128 + (y 0).val = (y 0).val; omega
  | ⟨1, _⟩ => rfl

/-! ## The output arrays -/

/-- A write-back of the vertex products covers 2048 columns, -/
theorem emb_sim (t : Fin cfg0.N) (y : S2048x2048.Idx) : ((cfg0.win 8).blk t).view.emb y
    = (ix2 (y 0) ⟨t.val * 2048 + (y 1).val, by have : (y 1).val < 2048 := (y 1).isLt; have := point_lt t; omega⟩ : S2048x53248.Idx) := by
  refine funext fun a => Fin.ext ?_
  refine (win0_8.rect_emb_val_off t y a).trans ?_
  have e : win0_8.index t = ![0, t.val] := index_out_sim t
  rw [e]
  match a with
  | ⟨0, _⟩ => show 0 * 2048 + (y 0).val = (y 0).val; omega
  | ⟨1, _⟩ => rfl
/-- one of the noise products likewise, -/
theorem emb_noise (t : Fin cfg0.N) (y : S32x2048.Idx) : ((cfg0.win 9).blk t).view.emb y
    = (ix2 (y 0) ⟨min t.val 15 * 2048 + (y 1).val, by have : (y 1).val < 2048 := (y 1).isLt; omega⟩ : S32x32768.Idx) := by
  refine funext fun a => Fin.ext ?_
  refine (win0_9.rect_emb_val_off t y a).trans ?_
  have e : win0_9.index t = ![0, min t.val 15] := index_out_noise t
  rw [e]
  match a with
  | ⟨0, _⟩ => show 0 * 32 + (y 0).val = (y 0).val; omega
  | ⟨1, _⟩ => rfl
/-- one of the clutter bank 2048 columns of it, -/
theorem emb_clutter (t : Fin cfg0.N) (y : S128x2048.Idx) : ((cfg0.win 10).blk t).view.emb y
    = (ix2 (y 0) ⟨(t.val - 16) * 2048 + (y 1).val, by have : (y 1).val < 2048 := (y 1).isLt; have := point_lt t; omega⟩ : S128x20480.Idx) := by
  refine funext fun a => Fin.ext ?_
  refine (win0_10.rect_emb_val_off t y a).trans ?_
  have e : win0_10.index t = ![0, t.val - 16] := index_out_clutter t
  rw [e]
  match a with
  | ⟨0, _⟩ => show 0 * 128 + (y 0).val = (y 0).val; omega
  | ⟨1, _⟩ => rfl
/-- and one of the memory four classes. -/
theorem emb_mem (t : Fin cfg0.N) (y : S4x128x512.Idx) : ((cfg0.win 11).blk t).view.emb y
    = (ix3 ⟨min t.val 15 * 4 + (y 0).val, by have : (y 0).val < 4 := (y 0).isLt; omega⟩ (y 1) (y 2) : S64x128x512.Idx) := by
  refine funext fun a => Fin.ext ?_
  refine (win0_11.rect_emb_val_off t y a).trans ?_
  have e : win0_11.index t = ![min t.val 15, 0, 0] := index_out_mem t
  rw [e]
  match a with
  | ⟨0, _⟩ => rfl
  | ⟨1, _⟩ => show 0 * 128 + (y 1).val = (y 1).val; omega
  | ⟨2, _⟩ => show 0 * 512 + (y 2).val = (y 2).val; omega

/-! Which elements a write-back covers. -/

/-- An entry lies in the vertex products' block that its coordinates name; -/
theorem in_sim (t : Fin cfg0.N) (y : S2048x2048.Idx) (i : S2048x53248.Idx) (h0 : (y 0).val = (i 0).val) (h1 : t.val * 2048 + (y 1).val = (i 1).val) :
    i ∈ ((cfg0.win 8).blk t).view.set := by
  have e : ((cfg0.win 8).blk t).view.emb y = i := (emb_sim t y).trans (funext fun a => Fin.ext (match a with
    | ⟨0, _⟩ => h0
    | ⟨1, _⟩ => h1))
  exact e ▸ View.emb_mem_set _ y
/-- so it is for the noise products, -/
theorem in_noise (t : Fin cfg0.N) (y : S32x2048.Idx) (i : S32x32768.Idx) (h0 : (y 0).val = (i 0).val) (h1 : min t.val 15 * 2048 + (y 1).val = (i 1).val) :
    i ∈ ((cfg0.win 9).blk t).view.set := by
  have e : ((cfg0.win 9).blk t).view.emb y = i := (emb_noise t y).trans (funext fun a => Fin.ext (match a with
    | ⟨0, _⟩ => h0
    | ⟨1, _⟩ => h1))
  exact e ▸ View.emb_mem_set _ y
/-- for the new bank -/
theorem in_clutter (t : Fin cfg0.N) (y : S128x2048.Idx) (i : S128x20480.Idx) (h0 : (y 0).val = (i 0).val) (h1 : (t.val - 16) * 2048 + (y 1).val = (i 1).val) :
    i ∈ ((cfg0.win 10).blk t).view.set := by
  have e : ((cfg0.win 10).blk t).view.emb y = i := (emb_clutter t y).trans (funext fun a => Fin.ext (match a with
    | ⟨0, _⟩ => h0
    | ⟨1, _⟩ => h1))
  exact e ▸ View.emb_mem_set _ y
/-- and for the new memory. -/
theorem in_mem (t : Fin cfg0.N) (y : S4x128x512.Idx) (i : S64x128x512.Idx) (h0 : min t.val 15 * 4 + (y 0).val = (i 0).val) (h1 : (y 1).val = (i 1).val) (h2 : (y 2).val = (i 2).val) :
    i ∈ ((cfg0.win 11).blk t).view.set := by
  have e : ((cfg0.win 11).blk t).view.emb y = i := (emb_mem t y).trans (funext fun a => Fin.ext (match a with
    | ⟨0, _⟩ => h0
    | ⟨1, _⟩ => h1
    | ⟨2, _⟩ => h2))
  exact e ▸ View.emb_mem_set _ y

/-- The vertex products' array after the run, from its values block by block. -/
theorem array_sim (G : S2048x53248.Idx → Elt F .f32)
    (h : ∀ (t : Fin cfg0.N) (y : S2048x2048.Idx), (dats m 0 c).after 8 t y
      = G (ix2 (y 0) ⟨t.val * 2048 + (y 1).val, by have : (y 1).val < 2048 := (y 1).isLt; have := point_lt t; omega⟩)) :
    (dats m 0 c).arrAt 8 cfg0.N = G := by
  refine (dats m 0 c).arrAt_eq_of_cover 8 G (fun t _ => funext fun y => ?_) fun i => ?_
  · exact (h t y).trans (congrArg G (emb_sim t y)).symm
  · have hi : (i 1).val < 53248 := (i 1).isLt
    refine ⟨⟨(i 1).val / 2048, by rw [show cfg0.N = 26 from N_0]; omega⟩, flush0_8 _,
      in_sim _ (ix2 (i 0) ⟨(i 1).val % 2048, Nat.mod_lt _ (by norm_num)⟩) i rfl (by show (i 1).val / 2048 * 2048 + (i 1).val % 2048 = (i 1).val; omega)⟩

/-- The noise products' array. -/
theorem array_noise (G : S32x32768.Idx → Elt F .f32)
    (h : ∀ (t : Fin cfg0.N) (y : S32x2048.Idx), (dats m 0 c).after 9 t y
      = G (ix2 (y 0) ⟨min t.val 15 * 2048 + (y 1).val, by have : (y 1).val < 2048 := (y 1).isLt; omega⟩)) :
    (dats m 0 c).arrAt 9 cfg0.N = G := by
  refine (dats m 0 c).arrAt_eq_of_cover 9 G (fun t _ => funext fun y => ?_) fun i => ?_
  · exact (h t y).trans (congrArg G (emb_noise t y)).symm
  · have hi : (i 1).val < 32768 := (i 1).isLt
    by_cases h15 : (i 1).val / 2048 < 15
    · refine ⟨⟨(i 1).val / 2048, by rw [show cfg0.N = 26 from N_0]; omega⟩, (flush_memory _).1.trans (decide_eq_true (.inl h15)),
        in_noise _ (ix2 (i 0) ⟨(i 1).val % 2048, Nat.mod_lt _ (by norm_num)⟩) i rfl (by show min ((i 1).val / 2048) 15 * 2048 + (i 1).val % 2048 = (i 1).val; omega)⟩
    · refine ⟨⟨25, by rw [show cfg0.N = 26 from N_0]; omega⟩, (flush_memory _).1.trans (decide_eq_true (.inr rfl)),
        in_noise _ (ix2 (i 0) ⟨(i 1).val % 2048, Nat.mod_lt _ (by norm_num)⟩) i rfl (by show min 25 15 * 2048 + (i 1).val % 2048 = (i 1).val; omega)⟩

/-- The clutter bank's array. -/
theorem array_clutter (G : S128x20480.Idx → Elt F .f32)
    (h : ∀ (t : Fin cfg0.N) (y : S128x2048.Idx), 16 ≤ t.val → (dats m 0 c).after 10 t y
      = G (ix2 (y 0) ⟨(t.val - 16) * 2048 + (y 1).val, by have : (y 1).val < 2048 := (y 1).isLt; have := point_lt t; omega⟩)) :
    (dats m 0 c).arrAt 10 cfg0.N = G := by
  refine (dats m 0 c).arrAt_eq_of_cover 10 G (fun t hf => funext fun y => ?_) fun i => ?_
  · exact (h t y (of_decide_eq_true ((flush_clutter t).symm.trans hf))).trans (congrArg G (emb_clutter t y)).symm
  · have hi : (i 1).val < 20480 := (i 1).isLt
    refine ⟨⟨16 + (i 1).val / 2048, by rw [show cfg0.N = 26 from N_0]; omega⟩, (flush_clutter _).trans (decide_eq_true (Nat.le_add_right _ _)),
      in_clutter _ (ix2 (i 0) ⟨(i 1).val % 2048, Nat.mod_lt _ (by norm_num)⟩) i rfl (by show (16 + (i 1).val / 2048 - 16) * 2048 + (i 1).val % 2048 = (i 1).val; omega)⟩

/-- The memory's array. -/
theorem array_mem (G : S64x128x512.Idx → Elt F .f32)
    (h : ∀ (t : Fin cfg0.N) (y : S4x128x512.Idx), (dats m 0 c).after 11 t y
      = G (ix3 ⟨min t.val 15 * 4 + (y 0).val, by have : (y 0).val < 4 := (y 0).isLt; omega⟩ (y 1) (y 2))) :
    (dats m 0 c).arrAt 11 cfg0.N = G := by
  refine (dats m 0 c).arrAt_eq_of_cover 11 G (fun t _ => funext fun y => ?_) fun i => ?_
  · exact (h t y).trans (congrArg G (emb_mem t y)).symm
  · have hi : (i 0).val < 64 := (i 0).isLt
    by_cases h15 : (i 0).val / 4 < 15
    · refine ⟨⟨(i 0).val / 4, by rw [show cfg0.N = 26 from N_0]; omega⟩, (flush_memory _).2.trans (decide_eq_true (.inl h15)),
        in_mem _ (ix3 ⟨(i 0).val % 4, Nat.mod_lt _ (by norm_num)⟩ (i 1) (i 2)) i (by show min ((i 0).val / 4) 15 * 4 + (i 0).val % 4 = (i 0).val; omega) rfl rfl⟩
    · refine ⟨⟨25, by rw [show cfg0.N = 26 from N_0]; omega⟩, (flush_memory _).2.trans (decide_eq_true (.inr rfl)),
        in_mem _ (ix3 ⟨(i 0).val % 4, Nat.mod_lt _ (by norm_num)⟩ (i 1) (i 2)) i (by show min 25 15 * 4 + (i 0).val % 4 = (i 0).val; omega) rfl rfl⟩

end Cert.Mesh

end
-- ==== Proof.Spec.lean ====
/- The four results as plain functions of the arguments over the extended reals. -/
module

public import Idealize.ShloMosaic.Lib.Claim
public import Idealize.ShloMosaic.Lib.Affine
public import Idealize.ShloMosaic.Lib.StableHlo.ReadAt
public import Idealize.ShloMosaic.Lib.Tactic.WordOmega
public import Idealize.ShloMosaic.PureOps.Ideal.Laws
public import Idealize.ShloMosaic.Lib.Pointwise

@[expose] public section

noncomputable section

namespace Cert.Mesh

open Idealize.ShloMosaic Idealize.ShloMosaic.Tactic

/-- The features: 512 vertices, then 5 noise rows, of 128 numbers, for each of 4 images. -/
abbrev Feats := (⟨3, ![4, 517, 128]⟩ : Shape).Idx → EReal
/-- Which vertices are seen. -/
abbrev Seen := (⟨2, ![4, 512]⟩ : Shape).Idx → BitVec 1
/-- The images' classes. -/
abbrev Labels := (⟨1, ![4]⟩ : Shape).Idx → BitVec 32
/-- The memory of 64 classes: 512 columns each. -/
abbrev Memory := (⟨3, ![64, 128, 512]⟩ : Shape).Idx → EReal
/-- The clutter bank's columns. -/
abbrev Bank := (⟨2, ![128, 20480]⟩ : Shape).Idx → EReal

/-- The weight of the old memory, as a number, -/
def keep : EReal := Ideal.ofBits .f32 1063675494#32
/-- the weight of the new features, -/
def take : EReal := Ideal.ofBits .f32 1036831949#32
/-- and the least divisor of a column. -/
def least : EReal := Ideal.ofBits .f32 730643660#32

/-- Row `r` of image `b` times column `v` of class `k`. -/
def simMem (x0 : Feats) (x3 : Memory) (b : Fin 4) (r : Fin 517) (k : Fin 64) (v : Fin 512) : EReal :=
  ∑ x : Fin 128, x0 (ix3 b r x) * x3 (ix3 k x v)

/-- Row `r` of image `b` times column `l` of the bank. -/
def simBank (x0 : Feats) (x4 : Bank) (b : Fin 4) (r : Fin 517) (l : Fin 20480) : EReal :=
  ∑ x : Fin 128, x0 (ix3 b r x) * x4 (ix2 x l)

/-- The vertices' products with the memory and with the bank, side by side. -/
def sims (x0 : Feats) (x3 : Memory) (x4 : Bank) (b : Fin 4) (r : Fin 512) (j : Fin 53248) : EReal :=
  if h : j.val < 32768 then simMem x0 x3 b ⟨r.val, by omega⟩ ⟨j.val / 512, by omega⟩ ⟨j.val % 512, by omega⟩
  else simBank x0 x4 b ⟨r.val, by omega⟩ ⟨j.val - 32768, by omega⟩

/-- The noise rows' products with the memory. -/
def noiseSims (x0 : Feats) (x3 : Memory) (b : Fin 4) (r : Fin 5) (j : Fin 32768) : EReal :=
  simMem x0 x3 b ⟨512 + r.val, by omega⟩ ⟨j.val / 512, by omega⟩ ⟨j.val % 512, by omega⟩

/-- One if image `b` is of class `k`, else zero. -/
def hot (x2 : Labels) (b : Fin 4) (k : Fin 64) : EReal :=
  FloatOps.uitofp (F := Ideal) FTy.f32 (IntOp.cmpi CmpIPredicate.eq (x2 (ix1 b)) (BitVec.ofNat 32 k.val))

/-- Its two cases. -/
theorem hot_eq (x2 : Labels) (b : Fin 4) (k : Fin 64) : hot x2 b k = if x2 (ix1 b) = BitVec.ofNat 32 k.val then 1 else 0 := by
  unfold hot
  show (((BitVec.ofBool (x2 (ix1 b) == BitVec.ofNat 32 k.val)).toNat : ℝ) : EReal) = _
  by_cases e : x2 (ix1 b) = BitVec.ofNat 32 k.val
  · rw [if_pos e, e, beq_self_eq_true]; simp
  · rw [if_neg e, beq_false_of_ne e]; simp

/-- How many images are of class `k`. -/
def count (x2 : Labels) (k : Fin 64) : EReal := ∑ b : Fin 4, hot x2 b k

/-- The features of a vertex, zero if it is not seen. -/
def seen (x0 : Feats) (x1 : Seen) (b : Fin 4) (v : Fin 512) (x : Fin 128) : EReal :=
  x0 (ix3 b ⟨v.val, by omega⟩ x) * FloatOps.uitofp (F := Ideal) FTy.f32 (x1 (ix2 b v))

/-- The mean of the seen features of class `k`'s images, or the old memory if there are none. -/
def fresh (x0 : Feats) (x1 : Seen) (x2 : Labels) (x3 : Memory) (k : Fin 64) (x : Fin 128) (v : Fin 512) : EReal :=
  if count x2 k = 0 then x3 (ix3 k x v)
  else ∑ b : Fin 4, (hot x2 b k * (if 0 < count x2 k then Ideal.div 1 (max (count x2 k) 1) else 0)) * seen x0 x1 b v x

/-- The mixture of the old memory and the fresh one. -/
def mixed (x0 : Feats) (x1 : Seen) (x2 : Labels) (x3 : Memory) (k : Fin 64) (v : Fin 512) (x : Fin 128) : EReal :=
  x3 (ix3 k x v) * keep + fresh x0 x1 x2 x3 k x v * take

/-- Entry `x` of a column over the column's norm. -/
def unit (u : Fin 128 → EReal) (x : Fin 128) : EReal :=
  Ideal.div (u x) (max (Ideal.sqrt (∑ y : Fin 128, u y * u y)) least)

/-- The new memory. -/
def newMem (x0 : Feats) (x1 : Seen) (x2 : Labels) (x3 : Memory) (k : Fin 64) (x : Fin 128) (v : Fin 512) : EReal :=
  unit (mixed x0 x1 x2 x3 k v) x

/-- The step after `w`, modulo 1024 with the sign of the modulus, as the host computes it. -/
def slot (w : BitVec 32) : BitVec 32 :=
  Scalar.select (IntOp.andi
      (IntOp.cmpi CmpIPredicate.ne (IntOp.cmpi CmpIPredicate.slt (IntOp.remsi ArithUnit.host (IntOp.addi w 1#32) 1024#32) 0#32)
        (IntOp.cmpi CmpIPredicate.slt 1024#32 0#32))
      (IntOp.cmpi CmpIPredicate.ne (IntOp.remsi ArithUnit.host (IntOp.addi w 1#32) 1024#32) 0#32))
    (IntOp.addi (IntOp.remsi ArithUnit.host (IntOp.addi w 1#32) 1024#32) 1024#32)
    (IntOp.remsi ArithUnit.host (IntOp.addi w 1#32) 1024#32)

/-- The word of the first column of the bank that the noise replaces, -/
def startWord (w : BitVec 32) : BitVec 32 := IntOp.muli (IntOp.muli (slot w) 5#32) 4#32
/-- as a number. -/
def start (w : BitVec 32) : ℕ := (startWord w).toNat

/-- The slot lies in the ring. -/
theorem slot_range (w : BitVec 32) : 0 ≤ (slot w).toInt ∧ (slot w).toInt < 1024 := by
  have hr : IntOp.remsi ArithUnit.host (IntOp.addi w 1#32) 1024#32 = (IntOp.addi w 1#32).srem 1024#32 :=
    if_neg (by unfold IntOp.SDivCorner; simp)
  have hb : -1024 < ((IntOp.addi w 1#32).srem 1024#32).toInt ∧ ((IntOp.addi w 1#32).srem 1024#32).toInt < 1024 := by
    rw [BitVec.toInt_srem]
    exact ⟨Int.lt_tmod_of_pos _ (by decide), Int.tmod_lt_of_pos _ (by decide)⟩
  unfold slot
  rw [hr]
  generalize (IntOp.addi w 1#32).srem 1024#32 = r at hb
  have h1 : IntOp.cmpi CmpIPredicate.slt 1024#32 0#32 = 0#1 := by decide
  rw [h1]
  by_cases hn : r.toInt < 0
  · have h2 : IntOp.cmpi CmpIPredicate.slt r 0#32 = 1#1 := by
      show BitVec.ofBool (decide (r.toInt < 0)) = 1#1
      rw [decide_eq_true hn]
      rfl
    have h3 : IntOp.cmpi CmpIPredicate.ne r 0#32 = 1#1 := by
      have : r ≠ 0#32 := fun e => by rw [e] at hn; exact absurd hn (by decide)
      show BitVec.ofBool (!(r == 0#32)) = 1#1
      rw [beq_false_of_ne this]
      rfl
    rw [h2, h3]
    show 0 ≤ (r + 1024#32).toInt ∧ (r + 1024#32).toInt < 1024
    rw [BitVec.toInt_add]
    show 0 ≤ Int.bmod (r.toInt + 1024) (2 ^ 32) ∧ Int.bmod (r.toInt + 1024) (2 ^ 32) < 1024
    rw [Int.bmod_eq_of_le] <;> omega
  · have h2 : IntOp.cmpi CmpIPredicate.slt r 0#32 = 0#1 := by
      show BitVec.ofBool (decide (r.toInt < 0)) = 0#1
      rw [decide_eq_false hn]
      rfl
    rw [h2]
    have h3 : ∀ z : BitVec 1, IntOp.andi (IntOp.cmpi CmpIPredicate.ne 0#1 0#1) z = 0#1 := by decide
    rw [h3]
    exact ⟨by show 0 ≤ r.toInt; omega, hb.2⟩

/-- The first column, as a number, is twenty times the slot, and leaves room for twenty columns. -/
theorem start_eq (w : BitVec 32) : start w = (slot w).toInt.toNat * 20 ∧ start w + 20 ≤ 20480 := by
  have h := slot_range w
  have hn : (slot w).toInt = (slot w).toNat := by
    have e := BitVec.toInt_eq_toNat_cond (slot w)
    have := (slot w).isLt
    split at e <;> omega
  have hs : start w = (slot w).toNat * 5 % 2 ^ 32 * 4 % 2 ^ 32 := by
    show (slot w * 5#32 * 4#32).toNat = _
    rw [BitVec.toNat_mul, BitVec.toNat_mul]
    rfl
  rw [hn] at h ⊢
  rw [hs, Nat.mod_eq_of_lt (a := _ * 5) (by omega), Nat.mod_eq_of_lt (by omega)]
  omega

/-- Twenty columns fit after it. -/
theorem start_le (w : BitVec 32) : start w + 20 ≤ 20480 := (start_eq w).2

/-- The word read signed is the number. -/
theorem start_toInt (w : BitVec 32) : (startWord w).toInt = (start w : ℤ) := by
  have h := start_le w
  unfold start at *
  have := BitVec.toInt_eq_toNat_cond (startWord w)
  split at this <;> omega

/-- The bank with the noise rows put in from column `start` on. -/
def patched (x0 : Feats) (x4 : Bank) (w : BitVec 32) (l : Fin 20480) (x : Fin 128) : EReal :=
  if h : start w ≤ l.val ∧ l.val < start w + 20 then
    x0 (ix3 ⟨(l.val - start w) / 5, by omega⟩ ⟨512 + (l.val - start w) % 5, by omega⟩ x)
  else x4 (ix2 x l)

/-- The new bank. -/
def newBank (x0 : Feats) (x4 : Bank) (w : BitVec 32) (x : Fin 128) (l : Fin 20480) : EReal :=
  unit (patched x0 x4 w l) x

end Cert.Mesh
-- ==== Proof.Entry.lean ====
/- What the host lines before the launch leave in the kernel's inputs, at an index. -/
module

public import proofs.«01_k».proof.Proof.Gen.KernelIdeal.Frame
public import proofs.«01_k».proof.Proof.Spec
public import Idealize.ShloMosaic.Lib.Routing.OpsSet
public import Idealize.ShloMosaic.Lib.Routing.OpsPair

@[expose] public section

set_option maxRecDepth 16384

noncomputable section

namespace Cert.Mesh

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ) (c : Dev nD)

/-- The arguments a device starts with. -/
abbrev X0 : Feats := m (c, Proc.tc.devRef main_arg0)
/-- The seen vertices, -/
abbrev X1 : Seen := m (c, Proc.tc.devRef main_arg1)
/-- the labels, -/
abbrev X2 : Labels := m (c, Proc.tc.devRef main_arg2)
/-- the memory, -/
abbrev X3 : Memory := m (c, Proc.tc.devRef main_arg3)
/-- the bank -/
abbrev X4 : Bank := m (c, Proc.tc.devRef main_arg4)
/-- and the step. -/
abbrev X5 : S_.Idx → BitVec 32 := m (c, Proc.tc.devRef main_arg5)

/-- The vertex rows of the four images, one after another. -/
theorem vertex_at (r : Fin 2048) (x : Fin 128) : (V m c main_v2 : S2048x128.Idx → Ideal .f32) (ix2 r x)
    = X0 m c (ix3 ⟨r.val / 512, by omega⟩ ⟨r.val % 512, by omega⟩ x) := by
  unfold_abbrev_sides
  simp only [List.flatten_cons, List.flatten_nil, List.append_nil, List.cons_append, List.nil_append]
  after_reads_at

/-- The visible features, each image's transposed. -/
theorem visible_at (b : Fin 4) (x : Fin 128) (v : Fin 512) : (V m c main_v39 : S4x128x512.Idx → Ideal .f32) (ix3 b x v)
    = seen (X0 m c) (X1 m c) b v x := by
  unfold_abbrev_sides
  simp only [List.flatten_cons, List.flatten_nil, List.append_nil, List.cons_append, List.nil_append]
  after_reads_at
  rfl

/-- The memory and the bank are as they were. -/
theorem memory_entry : (V m c main_arg3 : S64x128x512.Idx → Ideal .f32) = X3 m c := by
  unfold_abbrev_sides
  simp only [List.flatten_cons, List.flatten_nil, List.append_nil, List.cons_append, List.nil_append]
  after_reads_simp
/-- So is the bank. -/
theorem bank_entry : (V m c main_arg4 : S128x20480.Idx → Ideal .f32) = X4 m c := by
  unfold_abbrev_sides
  simp only [List.flatten_cons, List.flatten_nil, List.append_nil, List.cons_append, List.nil_append]
  after_reads_simp

/-- The first column that the noise replaces. -/
theorem offset_at : (V m c main_v44 : S1.Idx → BitVec 32) (ix1 0) = startWord (X5 m c ix0) := by
  unfold_abbrev_sides
  simp only [List.flatten_cons, List.flatten_nil, List.append_nil, List.cons_append, List.nil_append]
  after_reads_at
  rfl

/-- The twenty noise rows written over a block of zeros: row `r` below twenty, and zero further down. -/
theorem rows_of_scatter (u : S20x128.Idx → EReal) (r : Fin 32) (x : Fin 128) :
    Host.scatter scatter_S32x128_S1_S20x128_01_n_0_0 (fun _ b => b)
        (broadcastInDim S32x128 ![] bcast_S_S32x128 (constant (F := Ideal) S_ FTy.f32 0#32))
        (broadcastInDim S1 ![] bcast_S_S1 (constantI S_ 32 0#32)) u (ix2 r x)
      = if h : r.val < 20 then u (ix2 ⟨r.val, h⟩ x) else 0 := by
  have lands : ∀ k : S20x128.Idx, scatter_S32x128_S1_S20x128_01_n_0_0.resultIdx? k
      (broadcastInDim S1 ![] bcast_S_S1 (constantI S_ 32 0#32)) = some (ix2 r x) ↔ (k 0).val = r.val ∧ (k 1).val = x.val := by
    intro k
    rw [Routing.resultIdx?_eq_some]
    have s0 : scatter_S32x128_S1_S20x128_01_n_0_0.start k (broadcastInDim S1 ![] bcast_S_S1 (constantI S_ 32 0#32)) 0 = 0 :=
      (dif_pos (by decide)).trans rfl
    have s1 : scatter_S32x128_S1_S20x128_01_n_0_0.start k (broadcastInDim S1 ![] bcast_S_S1 (constantI S_ 32 0#32)) 1 = 0 :=
      dif_neg (by decide)
    have w0 : scatter_S32x128_S1_S20x128_01_n_0_0.window k 0 = (k 0).val := (dif_pos (by decide)).trans rfl
    have w1 : scatter_S32x128_S1_S20x128_01_n_0_0.window k 1 = (k 1).val := (dif_pos (by decide)).trans rfl
    constructor
    · intro q
      have q0 := q 0
      have q1 := q 1
      rw [s0, w0] at q0
      rw [s1, w1] at q1
      change (0 : ℤ) + ((k 0).val : ℤ) = (r.val : ℤ) at q0
      change (0 : ℤ) + ((k 1).val : ℤ) = (x.val : ℤ) at q1
      omega
    · rintro ⟨q0, q1⟩ a
      match a with
      | ⟨0, _⟩ =>
        show scatter_S32x128_S1_S20x128_01_n_0_0.start k _ 0 + (scatter_S32x128_S1_S20x128_01_n_0_0.window k 0 : ℤ) = (r.val : ℤ)
        rw [s0, w0]; omega
      | ⟨1, _⟩ =>
        show scatter_S32x128_S1_S20x128_01_n_0_0.start k _ 1 + (scatter_S32x128_S1_S20x128_01_n_0_0.window k 1 : ℤ) = (x.val : ℤ)
        rw [s1, w1]; omega
  by_cases h : r.val < 20
  · rw [dif_pos h]
    refine Routing.scatter_set_hit _ _ _ _ _ _ (fun k hk => ?_) (ix2 ⟨r.val, h⟩ x) ((lands _).2 ⟨rfl, rfl⟩)
    have e := (lands k).1 hk
    refine congrArg u (funext fun a => Fin.ext ?_)
    match a with
    | ⟨0, _⟩ => exact e.1
    | ⟨1, _⟩ => exact e.2
  · rw [dif_neg h, Routing.scatter_set_miss _ _ _ _ _ fun k hk => h (by
      have e := (lands k).1 hk
      have : (k 0).val < 20 := (k 0).isLt
      omega)]
    exact Ideal.ofBits_zero_f32

/-- Row `r` of the noise rows of the four images, one after another, zero below the twentieth. -/
def noiseRow (x0 : Feats) (r : Fin 32) (x : Fin 128) : EReal :=
  if h : r.val < 20 then x0 (ix3 ⟨r.val / 5, by omega⟩ ⟨512 + r.val % 5, by omega⟩ x) else 0

/-- The padded noise rows, at an index. -/
theorem noise_row_at (r : Fin 32) (x : Fin 128) : (V m c main_v6 : S32x128.Idx → Ideal .f32) (ix2 r x) = noiseRow (X0 m c) r x := by
  unfold_abbrev_sides
  simp only [List.flatten_cons, List.flatten_nil, List.append_nil, List.cons_append, List.nil_append]
  after_reads_at
  rw [rows_of_scatter]
  rfl

/-- The noise rows as columns. -/
theorem noise_col_at (x : Fin 128) (r : Fin 32) : (V m c main_v7 : S128x32.Idx → Ideal .f32) (ix2 x r) = noiseRow (X0 m c) r x := by
  unfold_abbrev_sides
  simp only [List.flatten_cons, List.flatten_nil, List.append_nil, List.cons_append, List.nil_append]
  after_reads_at
  rw [rows_of_scatter]
  rfl

/-- The weight of image `b` in class `k`, -/
theorem weight_image_at (k : Fin 64) (b : Fin 4) : (V m c main_v34 : S512.Idx → Ideal .f32) (ix1 ⟨k.val * 8 + b.val, by omega⟩)
    = hot (X2 m c) b k * (if 0 < count (X2 m c) k then Ideal.div take (max (count (X2 m c) k) 1) else 0) := by
  unfold_abbrev_sides
  simp only [List.flatten_cons, List.flatten_nil, List.append_nil, List.cons_append, List.nil_append]
  after_reads_simp
  pointwise
  after_reads_at
  have e : (k.val * 8 + b.val) % 8 = b.val := by omega
  have h0 : constant (F := Ideal) S_ FTy.f32 0#32 ix0 = (0 : EReal) := Ideal.ofBits_zero_f32
  rw [dif_pos (by omega)]
  simp only [e, id_eq, h0]
  rfl

/-- and the weight of class `k`'s old memory. -/
theorem weight_old_at (k : Fin 64) : (V m c main_v34 : S512.Idx → Ideal .f32) (ix1 ⟨k.val * 8 + 4, by omega⟩)
    = if 0 < count (X2 m c) k then keep else 1 := by
  unfold_abbrev_sides
  simp only [List.flatten_cons, List.flatten_nil, List.append_nil, List.cons_append, List.nil_append]
  after_reads_simp
  pointwise
  after_reads_at
  rw [dif_neg (by omega), dif_pos (by omega), id_eq]
  pointwise
  rfl

end Cert.Mesh
-- ==== Proof.Payloads.lean ====
/- What one grid point's body leaves in its output buffers, over the extended reals, at an index. -/
module

public import proofs.«01_k».proof.Proof.Outs
public import proofs.«01_k».proof.Proof.Spec

@[expose] public section

set_option maxRecDepth 16384

noncomputable section

namespace Cert.Mesh

open Idealize.ShloMosaic Idealize.ShloMosaic.Tactic
open Cert.KernelIdeal Cert.KernelIdeal.Gen

/-- Entry `x` of a column times one over the column's norm: how the kernel normalises. -/
def unitK (u : Fin 128 → EReal) (x : Fin 128) : EReal :=
  u x * Ideal.div 1 (max (Ideal.sqrt (∑ y : Fin 128, u y * u y)) least)

/-- The vertex products of a memory point, at an index: sums over the features. -/
theorem outSim_at (x2 : Vec Ideal S2048x128 .f32) (x4 : Vec Ideal S4x128x512 .f32) (r j : Fin 2048) :
    outSim x2 x4 (ix2 r j) = ∑ x : Fin 128, x2 (ix2 r x) * x4 (ix3 ⟨j.val / 512, by omega⟩ x ⟨j.val % 512, by omega⟩) := by
  have h : ∀ (s : FVec Ideal S128x512 .f32) (v : Fin 512),
      matmul (φ₁ := .f32) (φ₂ := .f32) dot_S2048x128_S128x512_S2048x512_1_0_0_1_n_n none x2 s (constant (F := Ideal) S2048x512 .f32 0x00000000#32) (ix2 r v)
        = ∑ x : Fin 128, x2 (ix2 r x) * s (ix2 x v) := by
    intro s v
    pointwise
  exact h (slab x4 (cls j)) (col j)

/-- The noise products, likewise. -/
theorem outNoise_at (x3 : Vec Ideal S32x128 .f32) (x4 : Vec Ideal S4x128x512 .f32) (r : Fin 32) (j : Fin 2048) :
    outNoise x3 x4 (ix2 r j) = ∑ x : Fin 128, x3 (ix2 r x) * x4 (ix3 ⟨j.val / 512, by omega⟩ x ⟨j.val % 512, by omega⟩) := by
  have h : ∀ (s : FVec Ideal S128x512 .f32) (v : Fin 512),
      matmul (φ₁ := .f32) (φ₂ := .f32) dot_S32x128_S128x512_S32x512_1_0_0_1_n_n none x3 s (constant (F := Ideal) S32x512 .f32 0x00000000#32) (ix2 r v)
        = ∑ x : Fin 128, x3 (ix2 r x) * s (ix2 x v) := by
    intro s v
    pointwise
  exact h (slab x4 (cls j)) (col j)

/-- The vertex products of a bank point, likewise. -/
theorem outSimClutter_at (x2 : Vec Ideal S2048x128 .f32) (x5 : Vec Ideal S128x2048 .f32) (r j : Fin 2048) :
    outSimClutter x2 x5 (ix2 r j) = ∑ x : Fin 128, x2 (ix2 r x) * x5 (ix2 x j) := by
  unfold outSimClutter
  pointwise

/-- The column that a class's updated matrix has at `v`. -/
def updatedCol (w : Fin 5 → EReal) (x4 x6 : Vec Ideal S4x128x512 .f32) (k : Fin 4) (v : Fin 512) (x : Fin 128) : EReal :=
  w 4 * x4 (ix3 k x v) + (w 0 * x6 (ix3 0 x v) + w 1 * x6 (ix3 1 x v) + w 2 * x6 (ix3 2 x v) + w 3 * x6 (ix3 3 x v))

/-- A block of the new memory: each updated column times one over its norm. -/
theorem outMem_at (x0 : Vec Ideal S512 .f32) (x4 x6 : Vec Ideal S4x128x512 .f32) (i : grid0.Coords) (k : Fin 4) (x : Fin 128) (v : Fin 512) :
    outMem x0 x4 x6 i (ix3 k x v) = unitK (updatedCol (wgt x0 i k) x4 x6 k v) x := by
  unfold outMem normed updated slab
  simp only [← ix2_eq_valueIdx, ← ix3_eq_valueIdx]
  pointwise
  rfl

/-- The word of the noise's first column relative to the block. -/
def relStart (x1 : Vec Ideal S1 .i32) (i : grid0.Coords) : BitVec 32 :=
  Scalar.subi (x1 (ix1 0)) (Scalar.muli (Scalar.subi (BitVec.ofNat 32 (i 0).val) 16#32) 2048#32)

/-- One if noise row `r` goes to column `l`, else zero. -/
def pick (st : BitVec 32) (r : Fin 32) (l : Fin 2048) : EReal :=
  FloatOps.sitofp (F := Ideal) FTy.f32 (BitVec.setWidth 32
    (IntOp.cmpi CmpIPredicate.eq (IntOp.subi (BitVec.ofNat 32 l.val) st) (BitVec.ofNat 32 r.val)))

/-- The patched column before the division. -/
def patchedCol (st : BitVec 32) (x5 : Vec Ideal S128x2048 .f32) (x7 : Vec Ideal S128x32 .f32) (l : Fin 2048) (x : Fin 128) : EReal :=
  Scalar.select (IntOp.andi (IntOp.cmpi CmpIPredicate.sge (BitVec.ofNat 32 l.val) st)
      (IntOp.cmpi CmpIPredicate.slt (BitVec.ofNat 32 l.val) (Scalar.addi st 20#32)))
    (∑ r : Fin 32, x7 (ix2 x r) * pick st r l) (x5 (ix2 x l))

/-- A block of the new bank: each patched column times one over its norm. -/
theorem outClutter_at (x1 : Vec Ideal S1 .i32) (x5 : Vec Ideal S128x2048 .f32) (x7 : Vec Ideal S128x32 .f32) (i : grid0.Coords) (x : Fin 128) (l : Fin 2048) :
    outClutter x1 x5 x7 i (ix2 x l) = unitK (patchedCol (relStart x1 i) x5 x7 l) x := by
  unfold outClutter k0_pay25
  simp only [← ix1_eq_valueIdx]
  pointwise
  rfl

/-- `pick`'s two cases. -/
theorem pick_eq (st : BitVec 32) (r : Fin 32) (l : Fin 2048) :
    pick st r l = if BitVec.ofNat 32 l.val - st = BitVec.ofNat 32 r.val then 1 else 0 := by
  unfold pick
  show (((BitVec.setWidth 32 (BitVec.ofBool (BitVec.ofNat 32 l.val - st == BitVec.ofNat 32 r.val))).toInt : ℝ) : EReal) = _
  by_cases e : BitVec.ofNat 32 l.val - st = BitVec.ofNat 32 r.val
  · rw [if_pos e, e, beq_self_eq_true]
    show (((1 : ℤ) : ℝ) : EReal) = 1
    norm_num
  · rw [if_neg e, beq_false_of_ne e]
    show (((0 : ℤ) : ℝ) : EReal) = 0
    norm_num

/-- A small number's word, read signed, is the number. -/
theorem toInt_small (n : ℕ) (h : n < 100000) : (BitVec.ofNat 32 n).toInt = (n : ℤ) := by
  rw [BitVec.toInt_ofNat']
  exact Int.bmod_eq_of_le (by omega) (by omega)

/-- Inside the patch, the column is the noise row's; -/
theorem patchedCol_inside (st : BitVec 32) (x5 : Vec Ideal S128x2048 .f32) (x7 : Vec Ideal S128x32 .f32) (l : Fin 2048) (x : Fin 128)
    (hlo : -100000 < st.toInt) (hhi : st.toInt < 100000) (h1 : st.toInt ≤ (l.val : ℤ)) (h2 : (l.val : ℤ) < st.toInt + 20) :
    patchedCol st x5 x7 l x = x7 (ix2 x ⟨((l.val : ℤ) - st.toInt).toNat, by omega⟩) := by
  have hl := toInt_small l.val (by omega)
  have ha : (Scalar.addi st 20#32).toInt = st.toInt + 20 := by
    show (st + 20#32).toInt = _
    rw [BitVec.toInt_add]
    exact Int.bmod_eq_of_le (by show -(2 ^ 32 / 2 : ℤ) ≤ st.toInt + 20; omega) (by show st.toInt + 20 < (2 ^ 32 + 1) / 2; omega)
  have c1 : IntOp.cmpi CmpIPredicate.sge (BitVec.ofNat 32 l.val) st = 1#1 := by
    show BitVec.ofBool (decide (st.toInt ≤ (BitVec.ofNat 32 l.val).toInt)) = 1#1
    rw [hl, decide_eq_true h1]; rfl
  have c2 : IntOp.cmpi CmpIPredicate.slt (BitVec.ofNat 32 l.val) (Scalar.addi st 20#32) = 1#1 := by
    show BitVec.ofBool (decide ((BitVec.ofNat 32 l.val).toInt < (Scalar.addi st 20#32).toInt)) = 1#1
    rw [hl, ha, decide_eq_true h2]; rfl
  unfold patchedCol
  rw [c1, c2]
  show ∑ r : Fin 32, x7 (ix2 x r) * pick st r l = _
  have hd : BitVec.ofNat 32 l.val - st = BitVec.ofNat 32 ((l.val : ℤ) - st.toInt).toNat := by
    apply BitVec.eq_of_toInt_eq
    rw [BitVec.toInt_sub, hl, toInt_small _ (by omega), Int.toNat_of_nonneg (by omega)]
    exact Int.bmod_eq_of_le (by omega) (by omega)
  rw [Finset.sum_eq_single (⟨((l.val : ℤ) - st.toInt).toNat, by omega⟩ : Fin 32)]
  · rw [pick_eq, if_pos hd, mul_one]
  · intro r _ hr
    rw [pick_eq, if_neg, mul_zero]
    intro e
    rw [hd] at e
    have e' := congrArg BitVec.toNat e
    rw [BitVec.toNat_ofNat, BitVec.toNat_ofNat, Nat.mod_eq_of_lt (by omega), Nat.mod_eq_of_lt (by omega)] at e'
    exact hr (Fin.ext e'.symm)
  · intro h; exact absurd (Finset.mem_univ _) h

/-- outside it, the bank's. -/
theorem patchedCol_outside (st : BitVec 32) (x5 : Vec Ideal S128x2048 .f32) (x7 : Vec Ideal S128x32 .f32) (l : Fin 2048) (x : Fin 128)
    (hlo : -100000 < st.toInt) (hhi : st.toInt < 100000) (h : ¬ (st.toInt ≤ (l.val : ℤ) ∧ (l.val : ℤ) < st.toInt + 20)) :
    patchedCol st x5 x7 l x = x5 (ix2 x l) := by
  have hl := toInt_small l.val (by omega)
  have ha : (Scalar.addi st 20#32).toInt = st.toInt + 20 := by
    show (st + 20#32).toInt = _
    rw [BitVec.toInt_add]
    exact Int.bmod_eq_of_le (by show -(2 ^ 32 / 2 : ℤ) ≤ st.toInt + 20; omega) (by show st.toInt + 20 < (2 ^ 32 + 1) / 2; omega)
  have hz : ∀ p q : BitVec 1, (p = 0#1 ∨ q = 0#1) → IntOp.andi p q = 0#1 := by decide
  unfold patchedCol
  rw [hz]
  · rfl
  by_cases h1 : st.toInt ≤ (l.val : ℤ)
  · right
    show BitVec.ofBool (decide ((BitVec.ofNat 32 l.val).toInt < (Scalar.addi st 20#32).toInt)) = 0#1
    rw [hl, ha, decide_eq_false (fun h2 => h ⟨h1, h2⟩)]; rfl
  · left
    show BitVec.ofBool (decide (st.toInt ≤ (BitVec.ofNat 32 l.val).toInt)) = 0#1
    rw [hl, decide_eq_false h1]; rfl

/-- The relative start, as a number. -/
theorem relStart_toInt (x1 : Vec Ideal S1 .i32) (i : grid0.Coords) (s : ℕ) (hs : s ≤ 20480) (h : (x1 (ix1 0)).toInt = (s : ℤ)) (hi : 16 ≤ (i 0).val) :
    (relStart x1 i).toInt = (s : ℤ) - ((i 0).val - 16) * 2048 := by
  have hb : (i 0).val < 26 := (i 0).isLt
  generalize hn : (i 0).val = n at *
  have e : Scalar.muli (Scalar.subi (BitVec.ofNat 32 n) 16#32) 2048#32 = BitVec.ofNat 32 ((n - 16) * 2048) := by
    apply BitVec.eq_of_toNat_eq
    show ((BitVec.ofNat 32 n - 16#32) * 2048#32).toNat = _
    rw [BitVec.toNat_mul, BitVec.toNat_sub, BitVec.toNat_ofNat, BitVec.toNat_ofNat, BitVec.toNat_ofNat, BitVec.toNat_ofNat]
    omega
  unfold relStart
  rw [hn, e]
  show (x1 (ix1 0) - BitVec.ofNat 32 ((n - 16) * 2048)).toInt = _
  rw [BitVec.toInt_sub, h, toInt_small _ (by omega), Int.bmod_eq_of_le (by omega) (by omega)]
  omega

end Cert.Mesh
-- ==== Proof.Algebra.lean ====
/- The arithmetic the two programs' columns differ by: a factor taken through a sum, a quotient as a product with the
reciprocal, and a column's norm under a positive factor. -/
module

public import proofs.«01_k».proof.Proof.Spec
public import proofs.«01_k».proof.Proof.Payloads

@[expose] public section

noncomputable section

namespace Cert.Mesh

open Idealize.ShloMosaic Idealize.ShloMosaic.Tactic

/-- The kept share is a positive real, -/
theorem keep_eq : keep = ((15099494 / 16777216 : ℝ) : EReal) := by
  unfold keep
  simp [Ideal.ofBits, Ideal.ieee, -EReal.coe_mul]
  norm_num
/-- and so is the taken share, -/
theorem take_eq : take = ((13421773 / 134217728 : ℝ) : EReal) := by
  unfold take
  simp [Ideal.ofBits, Ideal.ieee, -EReal.coe_mul]
  norm_num
/-- and the least divisor. -/
theorem least_eq : least = ((9223372 / 9223372036854775808 : ℝ) : EReal) := by
  unfold least
  simp [Ideal.ofBits, Ideal.ieee, -EReal.coe_mul]
  norm_num

/-- The count is a real. -/
theorem count_eq (x2 : Labels) (k : Fin 64) : ∃ n : ℕ, count x2 k = ((n : ℝ) : EReal) := by
  have h : ∀ b : Fin 4, hot x2 b k = (((if x2 (ix1 b) = BitVec.ofNat 32 k.val then 1 else 0 : ℕ) : ℝ) : EReal) := by
    intro b
    rw [hot_eq]
    split <;> simp
  unfold count
  rw [Fin.sum_univ_four, h, h, h, h, ← EReal.coe_add, ← EReal.coe_add, ← EReal.coe_add, ← Nat.cast_add, ← Nat.cast_add, ← Nat.cast_add]
  exact ⟨_, rfl⟩

/-- Dividing by the norm is multiplying by its reciprocal. -/
theorem unitK_eq (u : Fin 128 → EReal) : unitK u = unit u := by
  funext x
  unfold unitK unit
  have hp : (0 : EReal) < max (Ideal.sqrt (∑ y : Fin 128, u y * u y)) least := by
    refine lt_max_of_lt_right ?_
    rw [least_eq]
    exact_mod_cast (by norm_num : (0 : ℝ) < _)
  simp only [Ideal.div, if_neg hp.ne', one_mul]

/-- A finite nonnegative factor goes through a sum. -/
theorem mul_sum_real {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The square of the shortest column admitted. -/
def shortest : EReal := Ideal.ofBits .f32 412794389#32

/-- It is a positive real. -/
theorem shortest_eq : shortest = ((10141205 / 2535301200456458802993406410752 : ℝ) : EReal) := by
  unfold shortest
  simp [Ideal.ofBits, Ideal.ieee, -EReal.coe_mul]
  norm_num

/-- A column that is not too short is normalised alike with and without the factor `keep + take`. -/
theorem unit_scale (c : ℝ) (h0 : 3 / 5 < c) (h1 : c ≤ 1) (u : Fin 128 → EReal) (hu : shortest ≤ ∑ y : Fin 128, u y * u y) :
    unit (fun y => (c : EReal) * u y) = unit u := by
  have hs : ∑ y : Fin 128, ((c : EReal) * u y) * ((c : EReal) * u y) = ((c * c : ℝ) : EReal) * ∑ y : Fin 128, u y * u y := by
    rw [mul_sum_real _ _ (by positivity)]
    refine Finset.sum_congr rfl fun y _ => ?_
    rw [EReal.coe_mul]
    exact mul_mul_mul_comm _ _ _ _
  funext x
  unfold unit
  simp only [hs]
  generalize ∑ y : Fin 128, u y * u y = n at hu
  rw [shortest_eq] at hu
  induction n with
  | bot => exact absurd (le_bot_iff.mp hu) (EReal.coe_ne_bot _)
  | top =>
    rw [EReal.coe_mul_top_of_pos (by positivity)]
    show Ideal.div _ (max ⊤ least) = Ideal.div _ (max ⊤ least)
    simp [Ideal.div]
  | coe r =>
    have hr : (10141205 / 2535301200456458802993406410752 : ℝ) ≤ r := by exact_mod_cast hu
    have hrp : 0 < r := lt_of_lt_of_le (by norm_num) hr
    have hsq : (19 / 10000000000000 : ℝ) < Real.sqrt r := by
      rw [Real.lt_sqrt (by norm_num)]
      refine lt_of_lt_of_le (by norm_num) hr
    have e1 : Ideal.sqrt ((r : ℝ) : EReal) = ((Real.sqrt r : ℝ) : EReal) := if_neg (not_lt.mpr hrp.le)
    have e2 : Ideal.sqrt (((c * c : ℝ) : EReal) * ((r : ℝ) : EReal)) = ((c * Real.sqrt r : ℝ) : EReal) := by
      rw [← EReal.coe_mul]
      have : Real.sqrt (c * c * r) = c * Real.sqrt r := by
        rw [Real.sqrt_mul (by positivity), Real.sqrt_mul_self (by linarith)]
      rw [← this]
      exact if_neg (not_lt.mpr (by positivity))
    have hm : ∀ d : ℝ, 3 / 5 < d → max ((d * Real.sqrt r : ℝ) : EReal) least = ((d * Real.sqrt r : ℝ) : EReal) := by
      intro d hd
      refine max_eq_left ?_
      rw [least_eq]
      have : (9223372 / 9223372036854775808 : ℝ) ≤ d * Real.sqrt r :=
        le_trans (b := 3 / 5 * (19 / 10000000000000)) (by norm_num) (mul_le_mul hd.le hsq.le (by norm_num) (by linarith))
      exact_mod_cast this
    have hm1 := hm 1 (by norm_num)
    rw [one_mul] at hm1
    have hq : 0 < Real.sqrt r := lt_trans (by norm_num) hsq
    have hc : 0 < c := by linarith
    have n1 : ((Real.sqrt r : ℝ) : EReal) ≠ 0 := by exact_mod_cast hq.ne'
    have n2 : ((c * Real.sqrt r : ℝ) : EReal) ≠ 0 := by exact_mod_cast (mul_pos hc hq).ne'
    rw [e1, e2, hm c h0, hm1]
    simp only [Ideal.div, if_neg n1, if_neg n2]
    rw [← EReal.coe_inv, ← EReal.coe_inv, mul_comm (c : EReal), mul_assoc, ← EReal.coe_mul]
    congr 2
    field_simp

/-- Column `v` of class `k` as the kernel mixes it. -/
def mixedK (x0 : Feats) (x1 : Seen) (x2 : Labels) (x3 : Memory) (k : Fin 64) (v : Fin 512) (x : Fin 128) : EReal :=
  (if 0 < count x2 k then keep else 1) * x3 (ix3 k x v)
    + ∑ b : Fin 4, (hot x2 b k * (if 0 < count x2 k then Ideal.div take (max (count x2 k) 1) else 0)) * seen x0 x1 b v x

/-- The kernel's mixture and the reference's are normalised alike. -/
theorem unit_mixed (x0 : Feats) (x1 : Seen) (x2 : Labels) (x3 : Memory) (k : Fin 64) (v : Fin 512)
    (hu : shortest ≤ ∑ y : Fin 128, x3 (ix3 k y v) * x3 (ix3 k y v)) :
    unit (mixedK x0 x1 x2 x3 k v) = unit (mixed x0 x1 x2 x3 k v) := by
  obtain ⟨n, hn⟩ := count_eq x2 k
  rcases Nat.eq_zero_or_pos n with h | h
  · have hc : count x2 k = 0 := by rw [hn, h]; simp
    have hk : mixedK x0 x1 x2 x3 k v = fun x => x3 (ix3 k x v) := by
      funext x
      simp [mixedK, hc]
    have hr : mixed x0 x1 x2 x3 k v = fun x => ((15099494 / 16777216 + 13421773 / 134217728 : ℝ) : EReal) * x3 (ix3 k x v) := by
      funext x
      unfold mixed fresh
      rw [if_pos hc, keep_eq, take_eq, EReal.coe_add, EReal.right_distrib_of_nonneg (by exact_mod_cast (by norm_num)) (by exact_mod_cast (by norm_num)),
        mul_comm, mul_comm (x3 _)]
    rw [hk, hr]
    exact (unit_scale _ (by norm_num) (by norm_num) _ hu).symm
  · have hc : 0 < count x2 k := by rw [hn]; exact_mod_cast h
    congr 1
    funext x
    unfold mixedK mixed fresh
    simp only [if_pos hc, if_neg hc.ne']
    have hmax : max (count x2 k) 1 = ((n : ℝ) : EReal) := by
      rw [hn]
      exact max_eq_left (by exact_mod_cast h)
    have hne : ((n : ℝ) : EReal) ≠ 0 := by exact_mod_cast h.ne'
    rw [hmax, mul_comm keep, mul_comm _ take, take_eq, mul_sum_real _ _ (by norm_num)]
    congr 1
    refine Finset.sum_congr rfl fun b _ => ?_
    simp only [Ideal.div, if_neg hne, one_mul]
    ac_rfl

end Cert.Mesh
-- ==== Proof.Values.lean ====
/- What the launch leaves in its four output arrays, over the extended reals. -/
module

public import proofs.«01_k».proof.Proof.Blocks
public import proofs.«01_k».proof.Proof.Entry
public import proofs.«01_k».proof.Proof.Payloads
public import proofs.«01_k».proof.Proof.Algebra

@[expose] public section

set_option maxRecDepth 16384

noncomputable section

namespace Cert.Mesh

open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ) (c : Dev nD)

/-- A pair index is its two coordinates; -/
theorem ix2_of {a b : ℕ} (y : (⟨2, ![a, b]⟩ : Shape).Idx) : ∃ (r : Fin a) (j : Fin b), y = ix2 r j :=
  ⟨y 0, y 1, eq_ix2 y⟩
/-- a triple index is its three. -/
theorem ix3_of {a b d : ℕ} (y : (⟨3, ![a, b, d]⟩ : Shape).Idx) : ∃ (r : Fin a) (j : Fin b) (l : Fin d), y = ix3 r j l :=
  ⟨y 0, y 1, y 2, eq_ix3 y⟩

/-- Columns of the first 32768 are the memory's; -/
theorem sims_mem (x0 : Feats) (x3 : Memory) (x4 : Bank) (b : Fin 4) (r : Fin 512) (j : Fin 53248) (h : j.val < 32768) :
    sims x0 x3 x4 b r j = simMem x0 x3 b ⟨r.val, by omega⟩ ⟨j.val / 512, by omega⟩ ⟨j.val % 512, by omega⟩ := dif_pos h
/-- the rest are the bank's. -/
theorem sims_bank (x0 : Feats) (x3 : Memory) (x4 : Bank) (b : Fin 4) (r : Fin 512) (j : Fin 53248) (h : ¬ j.val < 32768) :
    sims x0 x3 x4 b r j = simBank x0 x4 b ⟨r.val, by omega⟩ ⟨j.val - 32768, by omega⟩ := dif_neg h
/-- The first twenty noise rows are the features'. -/
theorem noiseRow_lt (x0 : Feats) (r : Fin 32) (x : Fin 128) (h : r.val < 20) :
    noiseRow x0 r x = x0 (ix3 ⟨r.val / 5, by omega⟩ ⟨512 + r.val % 5, by omega⟩ x) := dif_pos h
/-- A replaced column of the bank is a noise row; -/
theorem patched_in (x0 : Feats) (x4 : Bank) (w : BitVec 32) (l : Fin 20480) (x : Fin 128) (h : start w ≤ l.val ∧ l.val < start w + 20) :
    patched x0 x4 w l x = x0 (ix3 ⟨(l.val - start w) / 5, by omega⟩ ⟨512 + (l.val - start w) % 5, by omega⟩ x) := dif_pos h
/-- any other stays. -/
theorem patched_out (x0 : Feats) (x4 : Bank) (w : BitVec 32) (l : Fin 20480) (x : Fin 128) (h : ¬ (start w ≤ l.val ∧ l.val < start w + 20)) :
    patched x0 x4 w l x = x4 (ix2 x l) := dif_neg h

/-- The memory block of a point, at an index. -/
theorem mem_at (t : Fin cfg0.N) (k : Fin 4) (x : Fin 128) (v : Fin 512) :
    (iblk m c 4 t : S4x128x512.Idx → EReal) (ix3 k x v) = X3 m c (ix3 ⟨min t.val 15 * 4 + k.val, by omega⟩ x v) := by
  exact (block_mem m c t (ix3 k x v)).trans ((congrFun (memory_entry m c) _).trans (congrArg (X3 m c) (ix3_eq_valueIdx _ _ _).symm))

/-- The bank's block of a point, at an index. -/
theorem bank_at (t : Fin cfg0.N) (x : Fin 128) (l : Fin 2048) :
    (iblk m c 5 t : S128x2048.Idx → EReal) (ix2 x l) = X4 m c (ix2 x ⟨(t.val - 16) * 2048 + l.val, by have := point_lt t; omega⟩) := by
  exact (block_clutter m c t (ix2 x l)).trans ((congrFun (bank_entry m c) _).trans (congrArg (X4 m c) (ix2_eq_valueIdx _ _).symm))

/-- The first output holds the vertices' products. -/
theorem sim_value : (dats m 0 c).arrAt 8 cfg0.N
    = fun i : S2048x53248.Idx => sims (X0 m c) (X3 m c) (X4 m c) ⟨(i 0).val / 512, by have : (i 0).val < 2048 := (i 0).isLt; omega⟩
        ⟨(i 0).val % 512, by omega⟩ (i 1) := by
  refine array_sim m c _ fun t y => ?_
  obtain ⟨r, j, rfl⟩ := ix2_of y
  have ht := point_lt t
  rw [after_sim]
  by_cases h : t.val < 16
  · rw [if_pos h]
    refine (outSim_at _ _ r j).trans ?_
    refine Eq.trans ?_ (sims_mem (X0 m c) (X3 m c) (X4 m c) ⟨r.val / 512, by omega⟩ ⟨r.val % 512, by omega⟩
      ⟨t.val * 2048 + j.val, by omega⟩ (show t.val * 2048 + j.val < 32768 by omega)).symm
    unfold simMem
    refine Finset.sum_congr rfl fun x _ => ?_
    rw [mem_at]
    refine congrArg₂ (· * ·) ((block_vertex m c t (ix2 r x)).trans (vertex_at m c r x)) (congrArg (X3 m c) ?_)
    congr 1 <;> apply Fin.ext
    · show min t.val 15 * 4 + j.val / 512 = (t.val * 2048 + j.val) / 512
      omega
    · show j.val % 512 = (t.val * 2048 + j.val) % 512
      omega
  · rw [if_neg h]
    refine (outSimClutter_at _ _ r j).trans ?_
    refine Eq.trans ?_ (sims_bank (X0 m c) (X3 m c) (X4 m c) ⟨r.val / 512, by omega⟩ ⟨r.val % 512, by omega⟩
      ⟨t.val * 2048 + j.val, by omega⟩ (show ¬ (t.val * 2048 + j.val < 32768) by omega)).symm
    unfold simBank
    refine Finset.sum_congr rfl fun x _ => ?_
    rw [bank_at]
    refine congrArg₂ (· * ·) ((block_vertex m c t (ix2 r x)).trans (vertex_at m c r x)) (congrArg (X4 m c) ?_)
    refine congrArg (ix2 x) (Fin.ext ?_)
    show (t.val - 16) * 2048 + j.val = t.val * 2048 + j.val - 32768
    omega

/-- The second output holds the noise rows' products. -/
theorem noise_value : (dats m 0 c).arrAt 9 cfg0.N
    = fun i : S32x32768.Idx => ∑ x : Fin 128, noiseRow (X0 m c) (i 0) x
        * X3 m c (ix3 ⟨(i 1).val / 512, by have : (i 1).val < 32768 := (i 1).isLt; omega⟩ x ⟨(i 1).val % 512, by omega⟩) := by
  refine array_noise m c _ fun t y => ?_
  obtain ⟨r, j, rfl⟩ := ix2_of y
  rw [after_noise]
  refine (outNoise_at _ _ r j).trans ?_
  refine Finset.sum_congr rfl fun x _ => ?_
  rw [mem_at]
  refine congrArg₂ (· * ·) ((block_noise m c (memPoint t) (ix2 r x)).trans (noise_row_at m c r x)) (congrArg (X3 m c) ?_)
  congr 1 <;> apply Fin.ext
  · show min (min t.val 15) 15 * 4 + j.val / 512 = (min t.val 15 * 2048 + j.val) / 512
    omega
  · show j.val % 512 = (min t.val 15 * 2048 + j.val) % 512
    omega

/-- The third holds the new bank. -/
theorem clutter_value : (dats m 0 c).arrAt 10 cfg0.N
    = fun i : S128x20480.Idx => newBank (X0 m c) (X4 m c) (X5 m c ix0) (i 0) (i 1) := by
  refine array_clutter m c _ fun t y h16 => ?_
  obtain ⟨x, l, rfl⟩ := ix2_of y
  have ht := point_lt t
  rw [after_clutter]
  refine (outClutter_at _ _ _ _ x l).trans ?_
  rw [unitK_eq]
  show unit (patchedCol (relStart (iblk m c 1 t) (grid0.coords t)) (iblk m c 5 t) (iblk m c 7 t) l) x
    = unit (patched (X0 m c) (X4 m c) (X5 m c ix0) ⟨(t.val - 16) * 2048 + l.val, by omega⟩) x
  have hs := start_le (X5 m c ix0)
  have hst := relStart_toInt (iblk m c 1 t) (grid0.coords t) (start (X5 m c ix0)) (by omega)
    ((congrArg BitVec.toInt ((block_offset m c t (ix1 0)).trans (offset_at m c))).trans (start_toInt _)) (by rw [coord_val]; exact h16)
  rw [coord_val] at hst
  generalize relStart (iblk m c 1 t) (grid0.coords t) = st at hst
  refine congrFun (congrArg unit (funext fun z => ?_)) x
  by_cases hin : start (X5 m c ix0) ≤ (t.val - 16) * 2048 + l.val ∧ (t.val - 16) * 2048 + l.val < start (X5 m c ix0) + 20
  · refine Eq.trans ?_ (patched_in _ _ _ ⟨(t.val - 16) * 2048 + l.val, by omega⟩ z hin).symm
    have e : ((l.val : ℤ) - st.toInt).toNat = (t.val - 16) * 2048 + l.val - start (X5 m c ix0) := by omega
    refine (patchedCol_inside st _ _ l z (by omega) (by omega) (by omega) (by omega)).trans ?_
    refine ((block_noise_cols m c t _).trans (noise_col_at m c z _)).trans ?_
    refine (noiseRow_lt _ _ z (show ((l.val : ℤ) - st.toInt).toNat < 20 by omega)).trans (congrArg (X0 m c) ?_)
    congr 1 <;> apply Fin.ext
    · exact congrArg (· / 5) e
    · exact congrArg (512 + · % 5) e
  · refine Eq.trans ?_ (patched_out _ _ _ ⟨(t.val - 16) * 2048 + l.val, by omega⟩ z hin).symm
    exact (patchedCol_outside st _ _ l z (by omega) (by omega) (by omega)).trans (bank_at m c t z l)

/-- The weights of a class of a point's block, -/
theorem wgt_image (t : Fin cfg0.N) (k : Fin 4) (b : Fin 4) (ht : t.val < 16) : wgt (iblk m c 0 t) (grid0.coords t) k ⟨b.val, by omega⟩
    = hot (X2 m c) b ⟨t.val * 4 + k.val, by omega⟩
      * (if 0 < count (X2 m c) ⟨t.val * 4 + k.val, by omega⟩ then Ideal.div take (max (count (X2 m c) ⟨t.val * 4 + k.val, by omega⟩) 1) else 0) := by
  refine ((block_weights m c t _).trans (congrArg (V m c main_v34) ?_)).trans (weight_image_at m c ⟨t.val * 4 + k.val, by omega⟩ b)
  rw [ix1_eq_valueIdx]
  congr 1; apply Fin.ext
  show ((((grid0.coords t) 0).val * 4 + k.val) * 8 + b.val) % 512 = (t.val * 4 + k.val) * 8 + b.val
  rw [coord_val]
  omega
/-- and the old matrix's. -/
theorem wgt_old (t : Fin cfg0.N) (k : Fin 4) (ht : t.val < 16) : wgt (iblk m c 0 t) (grid0.coords t) k 4
    = if 0 < count (X2 m c) ⟨t.val * 4 + k.val, by omega⟩ then keep else 1 := by
  refine ((block_weights m c t _).trans (congrArg (V m c main_v34) ?_)).trans (weight_old_at m c ⟨t.val * 4 + k.val, by omega⟩)
  rw [ix1_eq_valueIdx]
  congr 1; apply Fin.ext
  show ((((grid0.coords t) 0).val * 4 + k.val) * 8 + 4) % 512 = (t.val * 4 + k.val) * 8 + 4
  rw [coord_val]
  omega

/-- The fourth holds the new memory, the admitted columns being long enough. -/
theorem mem_value (hu : ∀ (k : Fin 64) (v : Fin 512), shortest ≤ ∑ y : Fin 128, X3 m c (ix3 k y v) * X3 m c (ix3 k y v)) :
    (dats m 0 c).arrAt 11 cfg0.N
      = fun i : S64x128x512.Idx => newMem (X0 m c) (X1 m c) (X2 m c) (X3 m c) (i 0) (i 1) (i 2) := by
  refine array_mem m c _ fun t y => ?_
  obtain ⟨k, x, v, rfl⟩ := ix3_of y
  rw [after_mem]
  refine (outMem_at _ _ _ _ k x v).trans ?_
  rw [unitK_eq]
  have hp : (memPoint t).val < 16 := by show min t.val 15 < 16; omega
  have hk : updatedCol (wgt (iblk m c 0 (memPoint t)) (grid0.coords (memPoint t)) k) (iblk m c 4 (memPoint t)) (iblk m c 6 (memPoint t)) k v
      = mixedK (X0 m c) (X1 m c) (X2 m c) (X3 m c) ⟨min t.val 15 * 4 + k.val, by omega⟩ v := by
    funext z
    unfold updatedCol mixedK
    rw [Fin.sum_univ_four, mem_at, wgt_old m c _ k hp]
    have hw := fun b => wgt_image m c (memPoint t) k b hp
    have hv : ∀ b : Fin 4, (iblk m c 6 (memPoint t) : S4x128x512.Idx → EReal) (ix3 b z v) = seen (X0 m c) (X1 m c) b v z :=
      fun b => (block_visible m c _ (ix3 b z v)).trans (visible_at m c b z v)
    rw [hv 0, hv 1, hv 2, hv 3]
    have h15 : min (min t.val 15) 15 * 4 + k.val = min t.val 15 * 4 + k.val := by omega
    refine congrArg₂ (· + ·) (congrArg₂ (· * ·) rfl (congrArg (X3 m c) ?_)) ?_
    · congr 1; exact Fin.ext h15
    · refine congrArg₂ (· + ·) (congrArg₂ (· + ·) (congrArg₂ (· + ·) ?_ ?_) ?_) ?_
      · exact congrArg (· * _) (hw 0)
      · exact congrArg (· * _) (hw 1)
      · exact congrArg (· * _) (hw 2)
      · exact congrArg (· * _) (hw 3)
  rw [hk, unit_mixed _ _ _ _ _ _ (hu _ _)]
  rfl

end Cert.Mesh
-- ==== Proof.Tail.lean ====
/- The results that the host lines after the launch leave, and what the precondition says. -/
module

public import proofs.«01_k».proof.Proof.Values
public import proofs.«01_k».proof.Defs

@[expose] public section

set_option maxRecDepth 16384

noncomputable section

namespace Cert.Mesh

open Idealize.ShloMosaic Idealize.ShloMosaic.TcCoe Idealize.ShloMosaic.Tactic
open Idealize.SL Idealize.SL.Sem
open Cert.KernelIdeal Cert.KernelIdeal.Gen

/-- The first result is the first output, its rows split by image; -/
theorem tail_sims (W : Valuation τ sig (Elt Ideal)) (b : Fin 4) (r : Fin 512) (j : Fin 53248) :
    (StableHlo.after hostOps1 W (Proc.tc.devRef main_v46) : S4x512x53248.Idx → EReal) (ix3 b r j)
      = (W (Proc.tc.devRef main_v45_0) : S2048x53248.Idx → EReal) (ix2 ⟨b.val * 512 + r.val, by omega⟩ j) := by
  after_reads_at

/-- the second is the first twenty rows of the second output, split by image. -/
theorem tail_noise (W : Valuation τ sig (Elt Ideal)) (b : Fin 4) (r : Fin 5) (j : Fin 32768) :
    (StableHlo.after hostOps1 W (Proc.tc.devRef main_v48) : S4x5x32768.Idx → EReal) (ix3 b r j)
      = (W (Proc.tc.devRef main_v45_1) : S32x32768.Idx → EReal) (ix2 ⟨b.val * 5 + r.val, by omega⟩ j) := by
  after_reads_at

variable (m : (ℓ : Loc nD τ sig) → Buf (Elt Ideal) ℓ) (c : Dev nD)

/-- The windows' arrays are distinct. -/
theorem arrays_distinct : Function.Injective (Pipeline.arrRef (cfg0.spec)) := by decide

/-- The first result, -/
theorem result_sims : (Pipeline.afterTail₀ cfgs (dats m) 0 (V0 m) [hostOps1] c main_v46 : S4x512x53248.Idx → EReal)
    = fun i => sims (X0 m c) (X3 m c) (X4 m c) (i 0) (i 1) (i 2) := by
  funext i
  obtain ⟨b, r, j, rfl⟩ := ix3_of i
  unfold Pipeline.afterTail₀
  simp only [List.flatten_cons, List.flatten_nil, List.append_nil]
  refine (tail_sims _ b r j).trans ?_
  refine (congrFun ((Pipeline.withArrays_arr _ arrays_distinct c _ _ 8).trans (sim_value m c)) _).trans ?_
  show sims _ _ _ ⟨(b.val * 512 + r.val) / 512, _⟩ ⟨(b.val * 512 + r.val) % 512, _⟩ j = sims _ _ _ b r j
  congr 1 <;> apply Fin.ext
  · show (b.val * 512 + r.val) / 512 = b.val
    omega
  · show (b.val * 512 + r.val) % 512 = r.val
    omega

/-- and the second. -/
theorem result_noise : (Pipeline.afterTail₀ cfgs (dats m) 0 (V0 m) [hostOps1] c main_v48 : S4x5x32768.Idx → EReal)
    = fun i => noiseSims (X0 m c) (X3 m c) (i 0) (i 1) (i 2) := by
  funext i
  obtain ⟨b, r, j, rfl⟩ := ix3_of i
  unfold Pipeline.afterTail₀
  simp only [List.flatten_cons, List.flatten_nil, List.append_nil]
  refine (tail_noise _ b r j).trans ?_
  refine (congrFun ((Pipeline.withArrays_arr _ arrays_distinct c _ _ 9).trans (noise_value m c)) _).trans ?_
  show _ = simMem (X0 m c) (X3 m c) b ⟨512 + r.val, by omega⟩ ⟨j.val / 512, by omega⟩ ⟨j.val % 512, by omega⟩
  unfold simMem
  refine Finset.sum_congr rfl fun x _ => congrArg (fun z : EReal => z * X3 m c (ix3 ⟨j.val / 512, by omega⟩ x ⟨j.val % 512, by omega⟩)) ?_
  refine (noiseRow_lt _ _ x (show b.val * 5 + r.val < 20 by omega)).trans (congrArg (X0 m c) ?_)
  congr 1 <;> apply Fin.ext
  · show (b.val * 5 + r.val) / 5 = b.val
    omega
  · show 512 + (b.val * 5 + r.val) % 5 = 512 + r.val
    omega

/-- The precondition, in numbers: the labels are classes and no column is too short. -/
theorem pre_numbers [hP : Cert.Pre_labels_and_columns.Facts] (x0 : Feats) (x1 : Seen) (x2 : Labels) (x3 : Memory) (x4 : Bank) (x5 : S_.Idx → BitVec 32)
    (h1 : (Cert.Pre_labels_and_columns.fn (F := Ideal) x0 x1 x2 x3 x4 x5).1 = fun _ => 1#1)
    (h2 : (Cert.Pre_labels_and_columns.fn (F := Ideal) x0 x1 x2 x3 x4 x5).2 = fun _ => 1#1) :
    (∀ b : Fin 4, 0 ≤ (x2 (ix1 b)).toInt ∧ (x2 (ix1 b)).toInt < 64)
      ∧ ∀ (k : Fin 64) (v : Fin 512), shortest ≤ ∑ y : Fin 128, x3 (ix3 k y v) * x3 (ix3 k y v) := by
  have two : ∀ p q : BitVec 1, IntOp.andi p q = 1#1 → p = 1#1 ∧ q = 1#1 := by decide
  have tt : ∀ p : Prop, [Decidable p] → BitVec.ofBool (decide p) = 1#1 → p := by
    intro p _ h
    by_contra hp
    rw [decide_eq_false hp] at h
    exact absurd h (by decide)
  constructor
  · intro b
    have h := congrFun h1 (ix1 b)
    obtain ⟨ha, hb⟩ := two _ _ h
    exact ⟨tt (0 ≤ (x2 (ix1 b)).toInt) ha, tt ((x2 (ix1 b)).toInt < 64) hb⟩
  · intro k v
    have h := congrFun h2 (ix2 k v)
    dsimp only [Cert.Pre_labels_and_columns.fn] at h
    have e : Host.reduceAdd (mulf (F := Ideal) x3 x3) (constant (F := Ideal) Cert.Pre_labels_and_columns.S_ .f32 0#32)
        hP.reducesTo_S64x128x512_S64x512_d1 hP.h_S_ (ix2 k v) = ∑ y : Fin 128, x3 (ix3 k y v) * x3 (ix3 k y v) := by
      pointwise
    rw [← e]
    refine tt _ h

end Cert.Mesh
-- ==== Proof.Reference.lean ====
/- The reference's run: its host program is one list of operations, so every buffer ends at what the list leaves in it. -/
module

public import proofs.«01_k».proof.Proof.Gen.ReferenceIdeal
public import Idealize.ShloMosaic.Lib.StableHlo.Run
public import Idealize.ShloMosaic.Lib.Claim
public import Idealize.ShloMosaic.Lib.StableHlo.ReadAt
public import Idealize.ShloMosaic.PureOps.Ideal.Laws
public import Idealize.ShloMosaic.Lib.Pointwise

@[expose] public section

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v5`, by name, its two operands plain arguments. -/
def fn_main_v5 : (⟨S4x512x32768, .f32⟩ : BufTy).Contents (Elt F) → (⟨S4x512x20480, .f32⟩ : BufTy).Contents (Elt F) → (⟨S4x512x53248, .f32⟩ : BufTy).Contents (Elt F) :=
  (fun a b => concatenate S4x512x53248 2 [⟨S4x512x32768, a⟩, ⟨S4x512x20480, b⟩] concatenates_S4x512x32768_S4x512x20480_S4x512x53248_d2)

/-- @main's 117 operations, in order (a called function's operations stand in its call's place, spelt `TRef.…`). -/
abbrev ops : List (HloOp τ sig (Elt F)) :=
  [ unary main_arg0 main_v0 ((extractStridedSlice S4x512x128 ![0, 0, 0] · slices_S4x517x128_S4x512x128_0_0_0) : (⟨S4x517x128, .f32⟩ : BufTy).Contents (Elt F) → (⟨S4x512x128, .f32⟩ : BufTy).Contents (Elt F)),
    unary main_arg0 main_v1 ((extractStridedSlice S4x5x128 ![0, 512, 0] · slices_S4x517x128_S4x5x128_0_512_0) : (⟨S4x517x128, .f32⟩ : BufTy).Contents (Elt F) → (⟨S4x5x128, .f32⟩ : BufTy).Contents (Elt F)),
    binary main_v0 main_arg3 main_v2 ((fun l r => Host.dotGeneral dot_S4x512x128_S64x128x512_S4x512x64x512_2_1_01_02_n_n none l r) : (⟨S4x512x128, .f32⟩ : BufTy).Contents (Elt F) → (⟨S64x128x512, .f32⟩ : BufTy).Contents (Elt F) → (⟨S4x512x64x512, .f32⟩ : BufTy).Contents (Elt F)),
    binary main_v0 main_arg4 main_v3 ((fun l r => Host.dotGeneral dot_S4x512x128_S128x20480_S4x512x20480_2_0_01_1_n_n none l r) : (⟨S4x512x128, .f32⟩ : BufTy).Contents (Elt F) → (⟨S128x20480, .f32⟩ : BufTy).Contents (Elt F) → (⟨S4x512x20480, .f32⟩ : BufTy).Contents (Elt F)),
    reshape main_v2 main_v4 (rfl : (.f32 : EltTy) = .f32) shapeCasts_S4x512x64x512_S4x512x32768,
    binary main_v4 main_v3 main_v5 (fn_main_v5 (F := F)),
    binary main_v1 main_arg3 main_v6 ((fun l r => Host.dotGeneral dot_S4x5x128_S64x128x512_S4x5x64x512_2_1_01_02_n_n none l r) : (⟨S4x5x128, .f32⟩ : BufTy).Contents (Elt F) → (⟨S64x128x512, .f32⟩ : BufTy).Contents (Elt F) → (⟨S4x5x64x512, .f32⟩ : BufTy).Contents (Elt F)),
    reshape main_v6 main_v7 (rfl : (.f32 : EltTy) = .f32) shapeCasts_S4x5x64x512_S4x5x32768,
    nullary main_cst (constant S_ .f32 0x00000000#32),
    unary main_cst main_v8 (broadcastInDim S64 ![] bcast_S_S64 : (⟨S_, .f32⟩ : BufTy).Contents (Elt F) → (⟨S64, .f32⟩ : BufTy).Contents (Elt F)),
    nullary main_c (constantI S_ 32 0#32),
    unary main_c main_v9 (broadcastInDim S4 ![] bcast_S_S4 : (⟨S_, .i32⟩ : BufTy).Contents (Elt F) → (⟨S4, .i32⟩ : BufTy).Contents (Elt F)),
    binary main_arg2 main_v9 main_v10 (cmpi .slt : (⟨S4, .i32⟩ : BufTy).Contents (Elt F) → (⟨S4, .i32⟩ : BufTy).Contents (Elt F) → (⟨S4, .i1⟩ : BufTy).Contents (Elt F)),
    nullary main_c_0 (constantI S_ 32 64#32),
    unary main_c_0 main_v11 (broadcastInDim S4 ![] bcast_S_S4 : (⟨S_, .i32⟩ : BufTy).Contents (Elt F) → (⟨S4, .i32⟩ : BufTy).Contents (Elt F)),
    binary main_arg2 main_v11 main_v12 (addi : (⟨S4, .i32⟩ : BufTy).Contents (Elt F) → (⟨S4, .i32⟩ : BufTy).Contents (Elt F) → (⟨S4, .i32⟩ : BufTy).Contents (Elt F)),
    ternary main_v10 main_v12 main_arg2 main_v13 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v13 main_v14 (broadcastInDim S4x1 ![0] bcast_S4_S4x1_0 : (⟨S4, .i32⟩ : BufTy).Contents (Elt F) → (⟨S4x1, .i32⟩ : BufTy).Contents (Elt F)),
    nullary main_cst_1 (constant S_ .f32 0x3F800000#32),
    unary main_cst_1 main_v15 (broadcastInDim S4 ![] bcast_S_S4 : (⟨S_, .f32⟩ : BufTy).Contents (Elt F) → (⟨S4, .f32⟩ : BufTy).Contents (Elt F)),
    ternary main_v8 main_v14 main_v15 main_v16 ((fun x i u => Host.scatterAdd scatter_S64_S4x1_S4_n_0_0_1 x i u) : (⟨S64, .f32⟩ : BufTy).Contents (Elt F) → (⟨S4x1, .i32⟩ : BufTy).Contents (Elt F) → (⟨S4, .f32⟩ : BufTy).Contents (Elt F) → (⟨S64, .f32⟩ : BufTy).Contents (Elt F)),
    TRef.unary (TRef.of (T := ⟨S4, .i32⟩) main_arg2) (TRef.of (T := ⟨S4x1, .i32⟩) main_call0_v0) (broadcastInDim S4x1 ![0] bcast_S4_S4x1_0),
    TRef.nullary (TRef.of (T := ⟨S1x64, .i32⟩) main_call0_v1) (iotaInDim S1x64 32 1),
    TRef.unary (TRef.of (T := ⟨S4x1, .i32⟩) main_call0_v0) (TRef.of (T := ⟨S4x64, .i32⟩) main_call0_v2) (broadcastInDim S4x64 ![0, 1] bcast_S4x1_S4x64_0_1),
    TRef.unary (TRef.of (T := ⟨S1x64, .i32⟩) main_call0_v1) (TRef.of (T := ⟨S4x64, .i32⟩) main_call0_v3) (broadcastInDim S4x64 ![0, 1] bcast_S1x64_S4x64_0_1),
    TRef.binary (TRef.of (T := ⟨S4x64, .i32⟩) main_call0_v2) (TRef.of (T := ⟨S4x64, .i32⟩) main_call0_v3) (TRef.of (T := ⟨S4x64, .i1⟩) main_call0_v4) (cmpi .eq),
    TRef.unary (TRef.of (T := ⟨S4x64, .i1⟩) main_call0_v4) (TRef.of (T := ⟨S4x64, .f32⟩) main_v17) (uitofp .f32),
    nullary main_cst_2 (constant S_ .f32 0x00000000#32),
    unary main_cst_2 main_v18 (broadcastInDim S64 ![] bcast_S_S64 : (⟨S_, .f32⟩ : BufTy).Contents (Elt F) → (⟨S64, .f32⟩ : BufTy).Contents (Elt F)),
    binary main_v16 main_v18 main_v19 (cmpf .ogt : (⟨S64, .f32⟩ : BufTy).Contents (Elt F) → (⟨S64, .f32⟩ : BufTy).Contents (Elt F) → (⟨S64, .i1⟩ : BufTy).Contents (Elt F)),
    nullary main_cst_3 (constant S_ .f32 0x3F800000#32),
    unary main_cst_3 main_v20 (broadcastInDim S64 ![] bcast_S_S64 : (⟨S_, .f32⟩ : BufTy).Contents (Elt F) → (⟨S64, .f32⟩ : BufTy).Contents (Elt F)),
    binary main_v16 main_v20 main_v21 (maximumf : (⟨S64, .f32⟩ : BufTy).Contents (Elt F) → (⟨S64, .f32⟩ : BufTy).Contents (Elt F) → (⟨S64, .f32⟩ : BufTy).Contents (Elt F)),
    nullary main_cst_4 (constant S_ .f32 0x3F800000#32),
    unary main_cst_4 main_v22 (broadcastInDim S64 ![] bcast_S_S64 : (⟨S_, .f32⟩ : BufTy).Contents (Elt F) → (⟨S64, .f32⟩ : BufTy).Contents (Elt F)),
    binary main_v22 main_v21 main_v23 (Host.divf : (⟨S64, .f32⟩ : BufTy).Contents (Elt F) → (⟨S64, .f32⟩ : BufTy).Contents (Elt F) → (⟨S64, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S64, .f32⟩) main_call1_v1) (broadcastInDim S64 ![] bcast_S_S64),
    TRef.ternary (TRef.of (T := ⟨S64, .i1⟩) main_v19) (TRef.of (T := ⟨S64, .f32⟩) main_v23) (TRef.of (T := ⟨S64, .f32⟩) main_call1_v1) (TRef.of (T := ⟨S64, .f32⟩) main_v24) select,
    unary main_v24 main_v25 (broadcastInDim S1x64 ![1] bcast_S64_S1x64_1 : (⟨S64, .f32⟩ : BufTy).Contents (Elt F) → (⟨S1x64, .f32⟩ : BufTy).Contents (Elt F)),
    unary main_v25 main_v26 (broadcastInDim S4x64 ![0, 1] bcast_S1x64_S4x64_0_1 : (⟨S1x64, .f32⟩ : BufTy).Contents (Elt F) → (⟨S4x64, .f32⟩ : BufTy).Contents (Elt F)),
    binary main_v17 main_v26 main_v27 (mulf : (⟨S4x64, .f32⟩ : BufTy).Contents (Elt F) → (⟨S4x64, .f32⟩ : BufTy).Contents (Elt F) → (⟨S4x64, .f32⟩ : BufTy).Contents (Elt F)),
    unary main_arg1 main_v28 (broadcastInDim S4x512x1 ![0, 1] bcast_S4x512_S4x512x1_0_1 : (⟨S4x512, .i1⟩ : BufTy).Contents (Elt F) → (⟨S4x512x1, .i1⟩ : BufTy).Contents (Elt F)),
    unary main_v28 main_v29 (uitofp .f32 : (⟨S4x512x1, .i1⟩ : BufTy).Contents (Elt F) → (⟨S4x512x1, .f32⟩ : BufTy).Contents (Elt F)),
    unary main_v29 main_v30 (broadcastInDim S4x512x128 ![0, 1, 2] bcast_S4x512x1_S4x512x128_0_1_2 : (⟨S4x512x1, .f32⟩ : BufTy).Contents (Elt F) → (⟨S4x512x128, .f32⟩ : BufTy).Contents (Elt F)),
    binary main_v0 main_v30 main_v31 (mulf : (⟨S4x512x128, .f32⟩ : BufTy).Contents (Elt F) → (⟨S4x512x128, .f32⟩ : BufTy).Contents (Elt F) → (⟨S4x512x128, .f32⟩ : BufTy).Contents (Elt F)),
    unary main_v27 main_v32 ((transpose S64x4 [1, 0] · transposes_S4x64_S64x4_1_0) : (⟨S4x64, .f32⟩ : BufTy).Contents (Elt F) → (⟨S64x4, .f32⟩ : BufTy).Contents (Elt F)),
    reshape main_v31 main_v33 (rfl : (.f32 : EltTy) = .f32) shapeCasts_S4x512x128_S4x65536,
    binary main_v32 main_v33 main_v34 ((fun l r => Host.dotGeneral dot_S64x4_S4x65536_S64x65536_1_0_0_1_n_n none l r) : (⟨S64x4, .f32⟩ : BufTy).Contents (Elt F) → (⟨S4x65536, .f32⟩ : BufTy).Contents (Elt F) → (⟨S64x65536, .f32⟩ : BufTy).Contents (Elt F)),
    reshape main_v34 main_v35 (rfl : (.f32 : EltTy) = .f32) shapeCasts_S64x65536_S64x512x128,
    unary main_v35 main_v36 ((transpose S64x128x512 [0, 2, 1] · transposes_S64x512x128_S64x128x512_0_2_1) : (⟨S64x512x128, .f32⟩ : BufTy).Contents (Elt F) → (⟨S64x128x512, .f32⟩ : BufTy).Contents (Elt F)),
    nullary main_cst_6 (constant S_ .f32 0x00000000#32),
    unary main_cst_6 main_v37 (broadcastInDim S64 ![] bcast_S_S64 : (⟨S_, .f32⟩ : BufTy).Contents (Elt F) → (⟨S64, .f32⟩ : BufTy).Contents (Elt F)),
    binary main_v16 main_v37 main_v38 (cmpf .oeq : (⟨S64, .f32⟩ : BufTy).Contents (Elt F) → (⟨S64, .f32⟩ : BufTy).Contents (Elt F) → (⟨S64, .i1⟩ : BufTy).Contents (Elt F)),
    unary main_v38 main_v39 (broadcastInDim S64x1x1 ![0] bcast_S64_S64x1x1_0 : (⟨S64, .i1⟩ : BufTy).Contents (Elt F) → (⟨S64x1x1, .i1⟩ : BufTy).Contents (Elt F)),
    TRef.unary (TRef.of (T := ⟨S64x1x1, .i1⟩) main_v39) (TRef.of (T := ⟨S64x128x512, .i1⟩) main_call2_v0) (broadcastInDim S64x128x512 ![0, 1, 2] bcast_S64x1x1_S64x128x512_0_1_2),
    TRef.ternary (TRef.of (T := ⟨S64x128x512, .i1⟩) main_call2_v0) (TRef.of (T := ⟨S64x128x512, .f32⟩) main_arg3) (TRef.of (T := ⟨S64x128x512, .f32⟩) main_v36) (TRef.of (T := ⟨S64x128x512, .f32⟩) main_v40) select,
    nullary main_cst_7 (constant S_ .f32 0x3F666666#32),
    unary main_cst_7 main_v41 (broadcastInDim S64x128x512 ![] bcast_S_S64x128x512 : (⟨S_, .f32⟩ : BufTy).Contents (Elt F) → (⟨S64x128x512, .f32⟩ : BufTy).Contents (Elt F)),
    binary main_arg3 main_v41 main_v42 (mulf : (⟨S64x128x512, .f32⟩ : BufTy).Contents (Elt F) → (⟨S64x128x512, .f32⟩ : BufTy).Contents (Elt F) → (⟨S64x128x512, .f32⟩ : BufTy).Contents (Elt F)),
    nullary main_cst_8 (constant S_ .f32 0x3DCCCCCD#32),
    unary main_cst_8 main_v43 (broadcastInDim S64x128x512 ![] bcast_S_S64x128x512 : (⟨S_, .f32⟩ : BufTy).Contents (Elt F) → (⟨S64x128x512, .f32⟩ : BufTy).Contents (Elt F)),
    binary main_v40 main_v43 main_v44 (mulf : (⟨S64x128x512, .f32⟩ : BufTy).Contents (Elt F) → (⟨S64x128x512, .f32⟩ : BufTy).Contents (Elt F) → (⟨S64x128x512, .f32⟩ : BufTy).Contents (Elt F)),
    binary main_v42 main_v44 main_v45 (addf : (⟨S64x128x512, .f32⟩ : BufTy).Contents (Elt F) → (⟨S64x128x512, .f32⟩ : BufTy).Contents (Elt F) → (⟨S64x128x512, .f32⟩ : BufTy).Contents (Elt F)),
    TRef.binary (TRef.of (T := ⟨S64x128x512, .f32⟩) main_v45) (TRef.of (T := ⟨S64x128x512, .f32⟩) main_v45) (TRef.of (T := ⟨S64x128x512, .f32⟩) main_call3_v0) mulf,
    TRef.nullary (TRef.of (T := ⟨S_, .f32⟩) main_call3_cst) (constant S_ .f32 0x00000000#32),
    TRef.binary (TRef.of (T := ⟨S64x128x512, .f32⟩) main_call3_v0) (TRef.of (T := ⟨S_, .f32⟩) main_call3_cst) (TRef.of (T := ⟨S64x512, .f32⟩) main_call3_v1) (fun x v => Host.reduceAdd x v reducesTo_S64x128x512_S64x512_d1 h_S_),
    TRef.unary (TRef.of (T := ⟨S64x512, .f32⟩) main_call3_v1) (TRef.of (T := ⟨S64x1x512, .f32⟩) main_call3_v2) (broadcastInDim S64x1x512 ![0, 2] bcast_S64x512_S64x1x512_0_2),
    TRef.unary (TRef.of (T := ⟨S64x1x512, .f32⟩) main_call3_v2) (TRef.of (T := ⟨S64x1x512, .f32⟩) main_v46) Host.sqrt,
    nullary main_cst_9 (constant S_ .f32 0x2B8CBCCC#32),
    unary main_cst_9 main_v47 (broadcastInDim S64x1x512 ![] bcast_S_S64x1x512 : (⟨S_, .f32⟩ : BufTy).Contents (Elt F) → (⟨S64x1x512, .f32⟩ : BufTy).Contents (Elt F)),
    binary main_v46 main_v47 main_v48 (maximumf : (⟨S64x1x512, .f32⟩ : BufTy).Contents (Elt F) → (⟨S64x1x512, .f32⟩ : BufTy).Contents (Elt F) → (⟨S64x1x512, .f32⟩ : BufTy).Contents (Elt F)),
    unary main_v48 main_v49 (broadcastInDim S64x128x512 ![0, 1, 2] bcast_S64x1x512_S64x128x512_0_1_2 : (⟨S64x1x512, .f32⟩ : BufTy).Contents (Elt F) → (⟨S64x128x512, .f32⟩ : BufTy).Contents (Elt F)),
    binary main_v45 main_v49 main_v50 (Host.divf : (⟨S64x128x512, .f32⟩ : BufTy).Contents (Elt F) → (⟨S64x128x512, .f32⟩ : BufTy).Contents (Elt F) → (⟨S64x128x512, .f32⟩ : BufTy).Contents (Elt F)),
    nullary main_c_10 (constantI S_ 32 1#32),
    binary main_arg5 main_c_10 main_v51 (addi : (⟨S_, .i32⟩ : BufTy).Contents (Elt F) → (⟨S_, .i32⟩ : BufTy).Contents (Elt F) → (⟨S_, .i32⟩ : BufTy).Contents (Elt F)),
    nullary main_c_11 (constantI S_ 32 1024#32),
    TRef.unary (TRef.of (T := ⟨S_, .i32⟩) main_c_11) (TRef.of (T := ⟨S_, .i32⟩) main_call4_v0) id,
    TRef.nullary (TRef.of (T := ⟨S_, .i32⟩) main_call4_c) (constantI S_ 32 0#32),
    TRef.binary (TRef.of (T := ⟨S_, .i32⟩) main_call4_v0) (TRef.of (T := ⟨S_, .i32⟩) main_call4_c) (TRef.of (T := ⟨S_, .i1⟩) main_call4_v1) (cmpi .eq),
    TRef.nullary (TRef.of (T := ⟨S_, .i32⟩) main_call4_c_0) (constantI S_ 32 1#32),
    TRef.ternary (TRef.of (T := ⟨S_, .i1⟩) main_call4_v1) (TRef.of (T := ⟨S_, .i32⟩) main_call4_c_0) (TRef.of (T := ⟨S_, .i32⟩) main_call4_v0) (TRef.of (T := ⟨S_, .i32⟩) main_call4_v2) select,
    TRef.binary (TRef.of (T := ⟨S_, .i32⟩) main_v51) (TRef.of (T := ⟨S_, .i32⟩) main_call4_v2) (TRef.of (T := ⟨S_, .i32⟩) main_call4_v3) Host.remsi,
    TRef.nullary (TRef.of (T := ⟨S_, .i32⟩) main_call4_c_1) (constantI S_ 32 0#32),
    TRef.binary (TRef.of (T := ⟨S_, .i32⟩) main_call4_v3) (TRef.of (T := ⟨S_, .i32⟩) main_call4_c_1) (TRef.of (T := ⟨S_, .i1⟩) main_call4_v4) (cmpi .ne),
    TRef.nullary (TRef.of (T := ⟨S_, .i32⟩) main_call4_c_2) (constantI S_ 32 0#32),
    TRef.binary (TRef.of (T := ⟨S_, .i32⟩) main_call4_v3) (TRef.of (T := ⟨S_, .i32⟩) main_call4_c_2) (TRef.of (T := ⟨S_, .i1⟩) main_call4_v5) (cmpi .slt),
    TRef.nullary (TRef.of (T := ⟨S_, .i32⟩) main_call4_c_3) (constantI S_ 32 0#32),
    TRef.binary (TRef.of (T := ⟨S_, .i32⟩) main_call4_v2) (TRef.of (T := ⟨S_, .i32⟩) main_call4_c_3) (TRef.of (T := ⟨S_, .i1⟩) main_call4_v6) (cmpi .slt),
    TRef.binary (TRef.of (T := ⟨S_, .i1⟩) main_call4_v5) (TRef.of (T := ⟨S_, .i1⟩) main_call4_v6) (TRef.of (T := ⟨S_, .i1⟩) main_call4_v7) (cmpi .ne),
    TRef.binary (TRef.of (T := ⟨S_, .i1⟩) main_call4_v7) (TRef.of (T := ⟨S_, .i1⟩) main_call4_v4) (TRef.of (T := ⟨S_, .i1⟩) main_call4_v8) andi,
    TRef.binary (TRef.of (T := ⟨S_, .i32⟩) main_call4_v3) (TRef.of (T := ⟨S_, .i32⟩) main_call4_v2) (TRef.of (T := ⟨S_, .i32⟩) main_call4_v9) addi,
    TRef.ternary (TRef.of (T := ⟨S_, .i1⟩) main_call4_v8) (TRef.of (T := ⟨S_, .i32⟩) main_call4_v9) (TRef.of (T := ⟨S_, .i32⟩) main_call4_v3) (TRef.of (T := ⟨S_, .i32⟩) main_v52) select,
    reshape main_v1 main_v53 (rfl : (.f32 : EltTy) = .f32) shapeCasts_S4x5x128_S20x128,
    unary main_v53 main_v54 ((transpose S128x20 [1, 0] · transposes_S20x128_S128x20_1_0) : (⟨S20x128, .f32⟩ : BufTy).Contents (Elt F) → (⟨S128x20, .f32⟩ : BufTy).Contents (Elt F)),
    nullary main_c_12 (constantI S_ 32 5#32),
    binary main_v52 main_c_12 main_v55 (muli : (⟨S_, .i32⟩ : BufTy).Contents (Elt F) → (⟨S_, .i32⟩ : BufTy).Contents (Elt F) → (⟨S_, .i32⟩ : BufTy).Contents (Elt F)),
    nullary main_c_13 (constantI S_ 32 4#32),
    binary main_v55 main_c_13 main_v56 (muli : (⟨S_, .i32⟩ : BufTy).Contents (Elt F) → (⟨S_, .i32⟩ : BufTy).Contents (Elt F) → (⟨S_, .i32⟩ : BufTy).Contents (Elt F)),
    nullary main_c_14 (constantI S_ 32 0#32),
    binary main_v56 main_c_14 main_v57 (cmpi .slt : (⟨S_, .i32⟩ : BufTy).Contents (Elt F) → (⟨S_, .i32⟩ : BufTy).Contents (Elt F) → (⟨S_, .i1⟩ : BufTy).Contents (Elt F)),
    nullary main_c_15 (constantI S_ 32 20480#32),
    binary main_v56 main_c_15 main_v58 (addi : (⟨S_, .i32⟩ : BufTy).Contents (Elt F) → (⟨S_, .i32⟩ : BufTy).Contents (Elt F) → (⟨S_, .i32⟩ : BufTy).Contents (Elt F)),
    ternary main_v57 main_v58 main_v56 main_v59 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_16 (constantI S_ 32 0#32),
    binaryIndexed main_arg4 main_v54 ![main_c_16, main_v59] ⟨S_, .i32⟩ main_v60 ((fun x u i => Host.dynamicUpdateSlice x u (fun k => (i k (Shape.Idx.first h_S_)).toInt) updateFits_S128x20480_S128x20) : (⟨S128x20480, .f32⟩ : BufTy).Contents (Elt F) → (⟨S128x20, .f32⟩ : BufTy).Contents (Elt F) → (Fin 2 → (⟨S_, .i32⟩ : BufTy).Contents (Elt F)) → (⟨S128x20480, .f32⟩ : BufTy).Contents (Elt F)),
    TRef.binary (TRef.of (T := ⟨S128x20480, .f32⟩) main_v60) (TRef.of (T := ⟨S128x20480, .f32⟩) main_v60) (TRef.of (T := ⟨S128x20480, .f32⟩) main_call5_v0) mulf,
    TRef.nullary (TRef.of (T := ⟨S_, .f32⟩) main_call5_cst) (constant S_ .f32 0x00000000#32),
    TRef.binary (TRef.of (T := ⟨S128x20480, .f32⟩) main_call5_v0) (TRef.of (T := ⟨S_, .f32⟩) main_call5_cst) (TRef.of (T := ⟨S20480, .f32⟩) main_call5_v1) (fun x v => Host.reduceAdd x v reducesTo_S128x20480_S20480_d0 h_S_),
    TRef.unary (TRef.of (T := ⟨S20480, .f32⟩) main_call5_v1) (TRef.of (T := ⟨S1x20480, .f32⟩) main_call5_v2) (broadcastInDim S1x20480 ![1] bcast_S20480_S1x20480_1),
    TRef.unary (TRef.of (T := ⟨S1x20480, .f32⟩) main_call5_v2) (TRef.of (T := ⟨S1x20480, .f32⟩) main_v61) Host.sqrt,
    nullary main_cst_17 (constant S_ .f32 0x2B8CBCCC#32),
    unary main_cst_17 main_v62 (broadcastInDim S1x20480 ![] bcast_S_S1x20480 : (⟨S_, .f32⟩ : BufTy).Contents (Elt F) → (⟨S1x20480, .f32⟩ : BufTy).Contents (Elt F)),
    binary main_v61 main_v62 main_v63 (maximumf : (⟨S1x20480, .f32⟩ : BufTy).Contents (Elt F) → (⟨S1x20480, .f32⟩ : BufTy).Contents (Elt F) → (⟨S1x20480, .f32⟩ : BufTy).Contents (Elt F)),
    unary main_v63 main_v64 (broadcastInDim S128x20480 ![0, 1] bcast_S1x20480_S128x20480_0_1 : (⟨S1x20480, .f32⟩ : BufTy).Contents (Elt F) → (⟨S128x20480, .f32⟩ : BufTy).Contents (Elt F)),
    binary main_v60 main_v64 main_v65 (Host.divf : (⟨S128x20480, .f32⟩ : BufTy).Contents (Elt F) → (⟨S128x20480, .f32⟩ : BufTy).Contents (Elt F) → (⟨S128x20480, .f32⟩ : BufTy).Contents (Elt F)) ]

set_option maxRecDepth 8192 in
set_option maxHeartbeats 4000000 in
/-- The host program is the list. -/
theorem main_eq (c : Dev nD) : main (F := F) c = seq ops := rfl
/-- It scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide
set_option maxRecDepth 8192 in
/-- Every operation's buffers are the core's. -/
theorem ops_sub : (ops : List (HloOp τ sig (Elt F))).Forall fun op => op.bufs ⊆ tcRefs τ sig :=
  ⟨unary_bufs_sub .., unary_bufs_sub .., binary_bufs_sub .., binary_bufs_sub .., reshape_bufs_sub .., binary_bufs_sub .., binary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., unary_bufs_sub .., binary_bufs_sub .., unary_bufs_sub .., reshape_bufs_sub .., binary_bufs_sub .., reshape_bufs_sub .., unary_bufs_sub .., nullary_bufs_sub .., unary_bufs_sub .., binary_bufs_sub .., unary_bufs_sub .., unary_bufs_sub .., ternary_bufs_sub .., nullary_bufs_sub .., unary_bufs_sub .., binary_bufs_sub .., nullary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub .., reshape_bufs_sub .., unary_bufs_sub .., nullary_bufs_sub .., binary_bufs_sub .., nullary_bufs_sub .., binary_bufs_sub .., nullary_bufs_sub .., binary_bufs_sub .., nullary_bufs_sub .., binary_bufs_sub .., ternary_bufs_sub .., nullary_bufs_sub .., binaryIndexed_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every weakly fair execution leaves every buffer at what the operations leave in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

variable (V : (b : DevRef τ sig) → b.ty.Contents (Elt F))

open Idealize.ShloMosaic.Tactic

/-- No operation writes an argument. -/
theorem kept : after ops V (Proc.tc.devRef main_arg0) = V (Proc.tc.devRef main_arg0)
    ∧ after ops V (Proc.tc.devRef main_arg1) = V (Proc.tc.devRef main_arg1)
    ∧ after ops V (Proc.tc.devRef main_arg2) = V (Proc.tc.devRef main_arg2)
    ∧ after ops V (Proc.tc.devRef main_arg3) = V (Proc.tc.devRef main_arg3)
    ∧ after ops V (Proc.tc.devRef main_arg4) = V (Proc.tc.devRef main_arg4)
    ∧ after ops V (Proc.tc.devRef main_arg5) = V (Proc.tc.devRef main_arg5) := by
  refine ⟨?_, ?_, ?_, ?_, ?_, ?_⟩ <;> after_reads_simp

end Cert.ReferenceIdeal.Val
end
-- ==== Proof.RefValues.lean ====
/- The reference's four results at an index, as the plain functions of the arguments. -/
module

public import proofs.«01_k».proof.Proof.Reference
public import proofs.«01_k».proof.Proof.Spec
public import Idealize.ShloMosaic.Lib.Routing.OpsPair

@[expose] public section

set_option maxRecDepth 16384

noncomputable section

namespace Cert.Mesh.Ref

open Cert.ReferenceIdeal Cert.ReferenceIdeal.Gen Cert.ReferenceIdeal.Val
open Idealize.ShloMosaic Idealize.ShloMosaic.TcCoe Idealize.SL.Sem Idealize.ShloMosaic.StableHlo Idealize.ShloMosaic.Tactic

variable (V : (b : DevRef τ sig) → b.ty.Contents (Elt Ideal))

/-- The vertices' products. -/
theorem sims_at (b : Fin 4) (r : Fin 512) (j : Fin 53248) :
    (after ops V (Proc.tc.devRef main_v5) : S4x512x53248.Idx → Ideal .f32) (ix3 b r j)
      = sims (V (Proc.tc.devRef main_arg0)) (V (Proc.tc.devRef main_arg3)) (V (Proc.tc.devRef main_arg4)) b r j := by
  after_reads_simp
  pointwise [fn_main_v5]
  rfl

/-- The noise rows' products. -/
theorem noise_at (b : Fin 4) (r : Fin 5) (j : Fin 32768) :
    (after ops V (Proc.tc.devRef main_v7) : S4x5x32768.Idx → Ideal .f32) (ix3 b r j)
      = noiseSims (V (Proc.tc.devRef main_arg0)) (V (Proc.tc.devRef main_arg3)) b r j := by
  after_reads_at
  rfl

/-- The count of a class: the scatter adds a one for every image of it, no label being outside the classes. -/
theorem count_at (x2 : Labels) (hl : ∀ b, 0 ≤ (x2 (ix1 b)).toInt ∧ (x2 (ix1 b)).toInt < 64) (k : Fin 64) :
    Host.scatterAdd scatter_S64_S4x1_S4_n_0_0_1 (broadcastInDim S64 ![] bcast_S_S64 (constant (F := Ideal) S_ FTy.f32 0#32))
      (broadcastInDim S4x1 ![0] bcast_S4_S4x1_0
        (select (cmpi CmpIPredicate.slt x2 (broadcastInDim S4 ![] bcast_S_S4 (constantI S_ 32 0#32)))
          (addi x2 (broadcastInDim S4 ![] bcast_S_S4 (constantI S_ 32 64#32))) x2))
      (broadcastInDim S4 ![] bcast_S_S4 (constant (F := Ideal) S_ FTy.f32 1065353216#32)) (ix1 k) = count x2 k := by
  have hidx : ∀ b : Fin 4, (broadcastInDim S4x1 ![0] bcast_S4_S4x1_0
        (select (cmpi CmpIPredicate.slt x2 (broadcastInDim S4 ![] bcast_S_S4 (constantI S_ 32 0#32)))
          (addi x2 (broadcastInDim S4 ![] bcast_S_S4 (constantI S_ 32 64#32))) x2) : S4x1.Idx → BitVec 32) (ix2 b 0) = x2 (ix1 b) := by
    intro b
    have h := hl b
    pointwise
    generalize x2 (ix1 b) = l at h
    word_omega
  generalize broadcastInDim S4x1 ![0] bcast_S4_S4x1_0
        (select (cmpi CmpIPredicate.slt x2 (broadcastInDim S4 ![] bcast_S_S4 (constantI S_ 32 0#32)))
          (addi x2 (broadcastInDim S4 ![] bcast_S_S4 (constantI S_ 32 64#32))) x2) = idx at hidx
  have lands : ∀ b : Fin 4, scatter_S64_S4x1_S4_n_0_0_1.resultIdx? (ix1 b) idx = some (ix1 k) ↔ x2 (ix1 b) = BitVec.ofNat 32 k.val := by
    intro b
    rw [Routing.resultIdx?_eq_some]
    have hs : scatter_S64_S4x1_S4_n_0_0_1.start (ix1 b) idx 0 = (x2 (ix1 b)).toInt := by
      rw [← hidx b]
      exact (dif_pos (by decide)).trans (congrArg (fun z => (idx z).toInt) (funext fun a => match a with | ⟨0, _⟩ => rfl | ⟨1, _⟩ => rfl))
    have hw : scatter_S64_S4x1_S4_n_0_0_1.window (ix1 b) 0 = 0 := dif_neg (by decide)
    have h := hl b
    constructor
    · intro q
      have q0 := q 0
      rw [hs, hw] at q0
      change (x2 (ix1 b)).toInt + 0 = (k.val : ℤ) at q0
      generalize x2 (ix1 b) = l at q0 h
      apply BitVec.eq_of_toInt_eq
      rw [BitVec.toInt_ofNat']
      have := k.isLt
      rw [Int.bmod_eq_of_le] <;> omega
    · intro q a
      obtain rfl : a = 0 := Subsingleton.elim (α := Fin 1) _ _
      rw [hs, hw, q, BitVec.toInt_ofNat']
      show Int.bmod (k.val : ℤ) (2 ^ 32) + 0 = (k.val : ℤ)
      have := k.isLt
      rw [Int.bmod_eq_of_le] <;> omega
  show Ideal.hostScatterAdd _ _ idx _ (ix1 k) = _
  unfold Ideal.hostScatterAdd count
  have h0 : broadcastInDim S64 ![] bcast_S_S64 (constant (F := Ideal) S_ FTy.f32 0#32) (ix1 k) = (0 : EReal) := Ideal.ofBits_zero_f32
  have h1 : ∀ j, broadcastInDim S4 ![] bcast_S_S4 (constant (F := Ideal) S_ FTy.f32 1065353216#32) j = (1 : EReal) := fun _ => Ideal.ofBits_one_f32
  simp only [h0, h1, zero_add]
  rw [Finset.sum_filter, sum_idx1]
  refine Finset.sum_congr rfl fun b _ => ?_
  simp only [lands]
  rw [hot_eq]

/-- The new memory. -/
theorem memory_at (hl : ∀ b, 0 ≤ ((V (Proc.tc.devRef main_arg2) : S4.Idx → BitVec 32) (ix1 b)).toInt
      ∧ ((V (Proc.tc.devRef main_arg2) : S4.Idx → BitVec 32) (ix1 b)).toInt < 64) (k : Fin 64) (x : Fin 128) (v : Fin 512) :
    (after ops V (Proc.tc.devRef main_v50) : S64x128x512.Idx → Ideal .f32) (ix3 k x v)
      = newMem (V (Proc.tc.devRef main_arg0)) (V (Proc.tc.devRef main_arg1)) (V (Proc.tc.devRef main_arg2)) (V (Proc.tc.devRef main_arg3)) k x v := by
  after_reads_at
  simp only [count_at _ hl]
  have hv : ∀ y : Fin 128, (v.val * 128 + y.val) / 128 = v.val ∧ (v.val * 128 + y.val) % 128 = y.val := fun y => by omega
  simp only [hv, id_eq]
  have h0 : constant (F := Ideal) S_ FTy.f32 0#32 ix0 = (0 : EReal) := Ideal.ofBits_zero_f32
  simp only [h0]
  simp only [newMem, unit, mixed, fresh, seen, hot, keep, take, least]

/-- The noise rows, side by side as columns, written into the bank from column `n` on. -/
theorem write_at (x0 : S4x517x128.Idx → Ideal .f32) (x4 : S128x20480.Idx → Ideal .f32) (st : Fin 2 → ℤ) (n : ℕ) (e0 : st 0 = 0) (e1 : st 1 = n)
    (hl : n + 20 ≤ 20480) (x : Fin 128) (l : Fin 20480) :
    Host.dynamicUpdateSlice x4 (transpose S128x20 [1, 0] (shapeCast S20x128 (extractStridedSlice S4x5x128 ![0, 512, 0] x0
        slices_S4x517x128_S4x5x128_0_512_0) shapeCasts_S4x5x128_S20x128) transposes_S20x128_S128x20_1_0) st updateFits_S128x20480_S128x20 (ix2 x l)
      = if h : n ≤ l.val ∧ l.val < n + 20 then x0 (ix3 ⟨(l.val - n) / 5, by omega⟩ ⟨512 + (l.val - n) % 5, by omega⟩ x) else x4 (ix2 x l) := by
  rw [Host.dynamicUpdateSlice_apply]
  have c0 := Host.clampedStart_of_le (s := S128x20480) (t := S128x20) rfl st 0 0 e0 (by decide)
  have c1 := Host.clampedStart_of_le (s := S128x20480) (t := S128x20) rfl st 1 n e1 hl
  by_cases h : n ≤ l.val ∧ l.val < n + 20
  · rw [dif_pos h, dif_pos (fun a => match a with
      | ⟨0, _⟩ => by
        show Host.clampedStart S128x20480 S128x20 rfl st 0 ≤ x.val ∧ x.val < Host.clampedStart S128x20480 S128x20 rfl st 0 + 128
        rw [c0]; omega
      | ⟨1, _⟩ => by
        show Host.clampedStart S128x20480 S128x20 rfl st 1 ≤ l.val ∧ l.val < Host.clampedStart S128x20480 S128x20 rfl st 1 + 20
        rw [c1]; omega)]
    pointwise
    simp only [c0, c1, Nat.sub_zero]
  · rw [dif_neg h, dif_neg (fun q => h (by
      have := q 1
      change Host.clampedStart S128x20480 S128x20 rfl st 1 ≤ l.val ∧ l.val < Host.clampedStart S128x20480 S128x20 rfl st 1 + 20 at this
      rwa [c1] at this))]

/-- The bank with the noise rows put in. -/
theorem patched_at (l : Fin 20480) (x : Fin 128) :
    (after ops V (Proc.tc.devRef main_v60) : S128x20480.Idx → Ideal .f32) (ix2 x l)
      = patched (V (Proc.tc.devRef main_arg0)) (V (Proc.tc.devRef main_arg4)) ((V (Proc.tc.devRef main_arg5) : S_.Idx → BitVec 32) ix0) l x := by
  after_reads_simp
  refine write_at _ _ _ _ ?_ ?_ (start_le _) x l
  · simp only [Matrix.cons_val_zero]
    after_reads_at
    rfl
  · simp only [Matrix.cons_val_one, Matrix.cons_val_zero]
    after_reads_at
    rw [show Shape.Idx.first h_S_ = ix0 from funext fun a => a.elim0]
    show BitVec.toInt (Scalar.select (IntOp.cmpi .slt (startWord (V (Proc.tc.devRef main_arg5) ix0)) 0#32)
      (IntOp.addi (startWord (V (Proc.tc.devRef main_arg5) ix0)) 20480#32) (startWord (V (Proc.tc.devRef main_arg5) ix0))) = _
    have h := start_toInt (V (Proc.tc.devRef main_arg5) ix0)
    have hn : IntOp.cmpi .slt (startWord (V (Proc.tc.devRef main_arg5) ix0)) 0#32 = 0#1 := by
      show BitVec.ofBool (decide ((startWord (V (Proc.tc.devRef main_arg5) ix0)).toInt < 0)) = 0#1
      rw [decide_eq_false (by omega)]
      rfl
    rw [hn]
    exact h

/-- The new bank, over the patched one. -/
theorem bank_at_patched (x : Fin 128) (l : Fin 20480) :
    (after ops V (Proc.tc.devRef main_v65) : S128x20480.Idx → Ideal .f32) (ix2 x l)
      = unit (fun y => (after ops V (Proc.tc.devRef main_v60) : S128x20480.Idx → Ideal .f32) (ix2 y l)) x := by
  after_reads_simp
  simp -implicitDefEqProofs only [StableHlo.TRef.toBuf, StableHlo.TRef.ofBuf, cast_cast, cast_eq]
  generalize Host.dynamicUpdateSlice _ _ _ _ = D
  pointwise
  rfl

/-- The new bank. -/
theorem bank_at (x : Fin 128) (l : Fin 20480) :
    (after ops V (Proc.tc.devRef main_v65) : S128x20480.Idx → Ideal .f32) (ix2 x l)
      = newBank (V (Proc.tc.devRef main_arg0)) (V (Proc.tc.devRef main_arg4)) ((V (Proc.tc.devRef main_arg5) : S_.Idx → BitVec 32) ix0) x l := by
  rw [bank_at_patched]
  unfold newBank
  exact congrArg (fun u => unit u x) (funext fun y => patched_at V l y)

end Cert.Mesh.Ref
-- ==== Proof.FrameReference.lean ====
/- The reference's frame: its run, read at the arguments; it declares no semaphore, so every counter ends at zero. -/
module

public import proofs.«01_k».proof.Defs
public import proofs.«01_k».proof.Proof.Reference

@[expose] public section

namespace Cert.Mesh

open Idealize.ShloMosaic Idealize.ShloMosaic.TcCoe Idealize.SL.Sem
open Cert.ReferenceIdeal

variable (m : (ℓ : Loc nD τ sig) → Buf (Elt Ideal) ℓ) (ρ : Dev nD → PrngReg)

/-- Every weakly fair execution of the reference leaves the arguments unchanged and every counter at zero. -/
theorem frame_reference : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => by
      obtain ⟨h0, h1, h2, h3, h4, h5⟩ := Val.kept (F := Ideal) (StableHlo.launchContents m c)
      exact ⟨(h c _).trans h0, (h c _).trans h1, (h c _).trans h2, (h c _).trans h3, (h c _).trans h4, (h c _).trans h5⟩, sem_eq_zero_of_no_sems (by decide) r.2⟩)
    (Val.run (F := Ideal) m ρ)

end Cert.Mesh

end
-- ==== Proof.Equal.lean ====
/- The idealized kernel and the reference leave the same four results. -/
module

public import proofs.«01_k».proof.Proof.Tail
public import proofs.«01_k».proof.Proof.RefValues
public import proofs.«01_k».proof.Proof.FrameReference

@[expose] public section

set_option maxRecDepth 16384

noncomputable section

namespace Cert.Mesh

open Idealize.ShloMosaic Idealize.ShloMosaic.TcCoe Idealize.ShloMosaic.Tactic
open Idealize.SL Idealize.SL.Sem

section
open Cert.KernelIdeal Cert.KernelIdeal.Gen

variable (m : (ℓ : Loc nD τ sig) → Buf (Elt Ideal) ℓ) (ρ : Dev nD → PrngReg)

/-- Every weakly fair execution of the idealized kernel ends with the four results and the arguments unchanged. -/
theorem kernel_results (hu : ∀ (c : Dev nD) (k : Fin 64) (v : Fin 512), shortest ≤ ∑ y : Fin 128, X3 m c (ix3 k y v) * X3 m c (ix3 k y v)) :
    θ_run (defs (F := Ideal)) (onTc (τ := τ) (main (F := Ideal))) ⟨m, fun _ => 0, ρ⟩ (fun r => ∀ c : Dev nD,
      r.2.mem ((c.tc : Thread nD τ).loc main_v46) = (fun i => sims (X0 m c) (X3 m c) (X4 m c) (i 0) (i 1) (i 2) : S4x512x53248.Idx → EReal)
      ∧ r.2.mem ((c.tc : Thread nD τ).loc main_v48) = (fun i => noiseSims (X0 m c) (X3 m c) (i 0) (i 1) (i 2) : S4x5x32768.Idx → EReal)
      ∧ r.2.mem ((c.tc : Thread nD τ).loc main_v45_3)
        = (fun i => newMem (X0 m c) (X1 m c) (X2 m c) (X3 m c) (i 0) (i 1) (i 2) : S64x128x512.Idx → EReal)
      ∧ r.2.mem ((c.tc : Thread nD τ).loc main_v45_2) = (fun i => newBank (X0 m c) (X4 m c) (X5 m c ix0) (i 0) (i 1) : S128x20480.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨((h.1.1 c).2 main_v46 (Pipeline.mem_restRefs_of main_v46 (by decide) (by decide))).trans (result_sims m c),
      ((h.1.1 c).2 main_v48 (Pipeline.mem_restRefs_of main_v48 (by decide) (by decide))).trans (result_noise m c),
      ((h.1.1 c).1 11).trans (mem_value m c (hu c)),
      ((h.1.1 c).1 10).trans (clutter_value m c),
      h.2.1 c⟩)
    (θ_run_and (run_main (F := Ideal) m ρ) (frame (F := Ideal) m ρ))
end

section
open Cert.ReferenceIdeal Cert.ReferenceIdeal.Val

variable (m : (ℓ : Loc nD τ sig) → Buf (Elt Ideal) ℓ) (ρ : Dev nD → PrngReg)

/-- Every weakly fair execution of the reference ends with the four results of its arguments `x0 … x5`, and those unchanged. -/
theorem reference_results (x0 : Dev nD → Feats) (x1 : Dev nD → Seen) (x2 : Dev nD → Labels) (x3 : Dev nD → Memory) (x4 : Dev nD → Bank)
    (x5 : Dev nD → S_.Idx → BitVec 32)
    (h0 : ∀ c : Dev nD, m ((c.tc : Thread nD τ).loc main_arg0) = x0 c) (h1 : ∀ c : Dev nD, m ((c.tc : Thread nD τ).loc main_arg1) = x1 c)
    (h2 : ∀ c : Dev nD, m ((c.tc : Thread nD τ).loc main_arg2) = x2 c) (h3 : ∀ c : Dev nD, m ((c.tc : Thread nD τ).loc main_arg3) = x3 c)
    (h4 : ∀ c : Dev nD, m ((c.tc : Thread nD τ).loc main_arg4) = x4 c) (h5 : ∀ c : Dev nD, m ((c.tc : Thread nD τ).loc main_arg5) = x5 c)
    (hl : ∀ (c : Dev nD) (b : Fin 4), 0 ≤ (x2 c (ix1 b)).toInt ∧ (x2 c (ix1 b)).toInt < 64) :
    θ_run (defs (F := Ideal)) (onTc (τ := τ) (main (F := Ideal))) ⟨m, fun _ => 0, ρ⟩ (fun r => ∀ c : Dev nD,
      r.2.mem ((c.tc : Thread nD τ).loc main_v5) = (fun i => sims (x0 c) (x3 c) (x4 c) (i 0) (i 1) (i 2) : S4x512x53248.Idx → EReal)
      ∧ r.2.mem ((c.tc : Thread nD τ).loc main_v7) = (fun i => noiseSims (x0 c) (x3 c) (i 0) (i 1) (i 2) : S4x5x32768.Idx → EReal)
      ∧ r.2.mem ((c.tc : Thread nD τ).loc main_v50)
        = (fun i => newMem (x0 c) (x1 c) (x2 c) (x3 c) (i 0) (i 1) (i 2) : S64x128x512.Idx → EReal)
      ∧ r.2.mem ((c.tc : Thread nD τ).loc main_v65) = (fun i => newBank (x0 c) (x4 c) (x5 c ix0) (i 0) (i 1) : S128x20480.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h c => ?_) (θ_run_and (Val.run (F := Ideal) m ρ) (frame_reference m ρ))
  have e0 : StableHlo.launchContents m c (Proc.tc.devRef main_arg0) = x0 c := h0 c
  have e1 : StableHlo.launchContents m c (Proc.tc.devRef main_arg1) = x1 c := h1 c
  have e2 : StableHlo.launchContents m c (Proc.tc.devRef main_arg2) = x2 c := h2 c
  have e3 : StableHlo.launchContents m c (Proc.tc.devRef main_arg3) = x3 c := h3 c
  have e4 : StableHlo.launchContents m c (Proc.tc.devRef main_arg4) = x4 c := h4 c
  have e5 : StableHlo.launchContents m c (Proc.tc.devRef main_arg5) = x5 c := h5 c
  have hm := Ref.memory_at (StableHlo.launchContents m c) (by rw [e2]; exact hl c)
  have hs := Ref.sims_at (StableHlo.launchContents m c)
  have hn := Ref.noise_at (StableHlo.launchContents m c)
  have hb := Ref.bank_at (StableHlo.launchContents m c)
  rw [e0, e1, e2, e3] at hm
  rw [e0, e3, e4] at hs
  rw [e0, e3] at hn
  rw [e0, e4, e5] at hb
  refine ⟨(h.1 c main_v5).trans (funext fun i => ?_), (h.1 c main_v7).trans (funext fun i => ?_), (h.1 c main_v50).trans (funext fun i => ?_),
    (h.1 c main_v65).trans (funext fun i => ?_), h.2.1 c⟩
  · obtain ⟨b, q, j, rfl⟩ := ix3_of i
    exact hs b q j
  · obtain ⟨b, q, j, rfl⟩ := ix3_of i
    exact hn b q j
  · obtain ⟨k, x, v, rfl⟩ := ix3_of i
    exact hm k x v
  · obtain ⟨x, l, rfl⟩ := ix2_of i
    exact hb x l
end

/-- The algebraic claim. -/
theorem equal_results [hP : Cert.Pre_labels_and_columns.Facts] :
    Cert.algebraic_KernelIdeal_ReferenceIdeal_pre_labels_and_columns (hKernelIdeal := Cert.KernelIdeal.Gen.facts)
      (hReferenceIdeal := Cert.ReferenceIdeal.Gen.facts) := by
  intro m g m' g' hpre hargs
  have hp := fun c => pre_numbers (X0 m c) (X1 m c) (X2 m c) (X3 m c) (X4 m c) (X5 m c) (hpre c).1 (hpre c).2
  exact ⟨_, _, _, _, kernel_results m g fun c => (hp c).2,
    reference_results m' g' (X0 m) (X1 m) (X2 m) (X3 m) (X4 m) (X5 m) (fun c => (hargs c).1) (fun c => (hargs c).2.1) (fun c => (hargs c).2.2.1)
      (fun c => (hargs c).2.2.2.1) (fun c => (hargs c).2.2.2.2.1) (fun c => (hargs c).2.2.2.2.2) fun c => (hp c).1⟩

end Cert.Mesh
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels_and_columns
public import proofs.«01_k».proof.Proof.FrameKernel
public import proofs.«01_k».proof.Proof.Equal
public import Idealize.ShloMosaic.Adequacy
public import Idealize.ShloMosaic.Init

@[expose] public section

noncomputable section

namespace Cert.Proof

open Idealize.ShloMosaic Idealize.SL.Sem

/-- The frames, the idealization's preservation and the equality with the reference. -/
theorem claim : Cert.Claim := ⟨Cert.Kernel.Gen.facts, Cert.KernelIdeal.Gen.facts, Cert.ReferenceIdeal.Gen.facts, Cert.Pre_labels_and_columns.Gen.facts,
  fun m g _ => Cert.Mesh.frame_kernel m g,
  fun m g _ => Cert.Mesh.frame m g,
  fun m g _ => Cert.Mesh.frame m g,
  fun m g _ => Cert.Mesh.frame_reference m g,
  fun m g _ => Cert.Mesh.frame_reference m g,
  trivial,
  Cert.Mesh.equal_results⟩

end Cert.Proof

end
